-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 8192]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 8192]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 8192]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)

variable [Facts]

def fn {F : FTy → Type} [FloatOps F] (main_arg0 : FVec F S2x4096x512 .f32) (main_arg1 : FVec F S2x128 .f32) (main_arg2 : FVec F S128x512 .f32) (main_arg3 : FVec F S128x512 .f32) : IVec S2x4096x512 1 :=
  let main_cst : FVec F S_ .f32 := constant S_ .f32 0xFF800000#32
  let main_v0 : FVec F S2x4096x512 .f32 := broadcastInDim S2x4096x512 ![] bcast_S_S2x4096x512 main_cst
  let main_v1 : IVec S2x4096x512 1 := cmpf .ogt main_arg0 main_v0
  let main_cst_0 : FVec F S_ .f32 := constant S_ .f32 0x7F800000#32
  let main_v2 : FVec F S2x4096x512 .f32 := broadcastInDim S2x4096x512 ![] bcast_S_S2x4096x512 main_cst_0
  let main_v3 : IVec S2x4096x512 1 := cmpf .olt main_arg0 main_v2
  let main_v4 : IVec S2x4096x512 1 := andi main_v1 main_v3
  main_v4
-- ==== Pre_finite_x_ReferenceIdeal.lean ====
abbrev S2x4096x8192 : Shape := ⟨3, ![2, 4096, 8192]⟩
abbrev S2x128 : Shape := ⟨2, ![2, 128]⟩
abbrev S128x8192 : Shape := ⟨2, ![128, 8192]⟩
abbrev S_ : Shape := ⟨0, ![]⟩

class Facts : Prop where
  bcast_S_S2x4096x8192 : S_.BroadcastsInDim S2x4096x8192 (![] : Fin 0 → Fin S2x4096x8192.rank)

variable [Facts]

def fn {F : FTy → Type} [FloatOps F] (main_arg0 : FVec F S2x4096x8192 .f32) (main_arg1 : FVec F S2x128 .f32) (main_arg2 : FVec F S128x8192 .f32) (main_arg3 : FVec F S128x8192 .f32) : IVec S2x4096x8192 1 :=
  let main_cst : FVec F S_ .f32 := constant S_ .f32 0xFF800000#32
  let main_v0 : FVec F S2x4096x8192 .f32 := broadcastInDim S2x4096x8192 ![] bcast_S_S2x4096x8192 main_cst
  let main_v1 : IVec S2x4096x8192 1 := cmpf .ogt main_arg0 main_v0
  let main_cst_0 : FVec F S_ .f32 := constant S_ .f32 0x7F800000#32
  let main_v2 : FVec F S2x4096x8192 .f32 := broadcastInDim S2x4096x8192 ![] bcast_S_S2x4096x8192 main_cst_0
  let main_v3 : IVec S2x4096x8192 1 := cmpf .olt main_arg0 main_v2
  let main_v4 : IVec S2x4096x8192 1 := andi main_v1 main_v3
  main_v4
-- ==== Kernel.lean ====
abbrev S2x4096x512 : Shape := ⟨3, ![2, 4096, 512]⟩
abbrev S2x128 : Shape := ⟨2, ![2, 128]⟩
abbrev S128x512 : Shape := ⟨2, ![128, 512]⟩
abbrev S2x16x4x2048 : Shape := ⟨4, ![2, 16, 4, 2048]⟩
abbrev S15 : Shape := ⟨1, ![15]⟩
abbrev S2x15 : Shape := ⟨2, ![2, 15]⟩
abbrev S_ : Shape := ⟨0, ![]⟩
abbrev S2x1024x512 : Shape := ⟨3, ![2, 1024, 512]⟩
abbrev S2x1024 : Shape := ⟨2, ![2, 1024]⟩
abbrev S1x1x2x1024 : Shape := ⟨4, ![1, 1, 2, 1024]⟩
abbrev S1 : Shape := ⟨1, ![1]⟩
abbrev S1x1 : Shape := ⟨2, ![1, 1]⟩
abbrev S1x1x4x2048 : Shape := ⟨4, ![1, 1, 4, 2048]⟩
abbrev S4x2048 : Shape := ⟨2, ![4, 2048]⟩
abbrev S2x512 : Shape := ⟨2, ![2, 512]⟩
abbrev S1x16x4x2048 : Shape := ⟨4, ![1, 16, 4, 2048]⟩
abbrev S16x4x2048 : Shape := ⟨3, ![16, 4, 2048]⟩
abbrev S2x2048 : Shape := ⟨2, ![2, 2048]⟩
abbrev S2x1024x1 : Shape := ⟨3, ![2, 1024, 1]⟩
abbrev S2x1x512 : Shape := ⟨3, ![2, 1, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x4096x512, .f32⟩
  | .local _ .vmem, ⟨0, _⟩ => ⟨S2x4096x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x4096x512, .f32⟩
  | .local _ .vmem, ⟨5, _⟩ => ⟨S2x16x4x2048, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_158 : BitVec 32 := 1#32
  let v221 : BitVec 32 := Scalar.addi v2 c1_i32_158
  let c16_i32_159 : BitVec 32 := 16#32
  let c0_i32_160 : BitVec 32 := 0#32
  let v222 : BitVec 1 := Scalar.cmpi .eq c16_i32_159 c0_i32_160
  let c1_i32_161 : BitVec 32 := 1#32
  let v223 : BitVec 32 := Scalar.select v222 c1_i32_161 c16_i32_159
  let v224 : BitVec 32 := Scalar.remsi v221 v223
  let c0_i32_163 : BitVec 32 := 0#32
  let v226 : BitVec 1 := Scalar.cmpi .slt v224 c0_i32_163
  let c0_i32_164 : BitVec 32 := 0#32
  let v227 : BitVec 1 := Scalar.cmpi .slt v223 c0_i32_164
  let v228 : BitVec 1 := Scalar.xori v226 v227
  let c0_i32_162 : BitVec 32 := 0#32
  let v225 : BitVec 1 := Scalar.cmpi .ne v224 c0_i32_162
  let v229 : BitVec 1 := Scalar.andi v228 v225
  let v230 : BitVec 32 := Scalar.addi v224 v223
  let v231 : BitVec 32 := Scalar.select v229 v230 v224
  let c1_i32_172 : BitVec 32 := 1#32
  let v232 : BitVec 32 := Scalar.muli v231 c1_i32_172
  let v233 : BitVec 32 := Scalar.addi c0_i32_173 v232
  v233.toNat
def k0_dev17 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_178 : BitVec 32 := 2#32
  let v242 : BitVec 32 := Scalar.addi v2 c2_i32_178
  let c16_i32_179 : BitVec 32 := 16#32
  let c0_i32_180 : BitVec 32 := 0#32
  let v243 : BitVec 1 := Scalar.cmpi .eq c16_i32_179 c0_i32_180
  let c1_i32_181 : BitVec 32 := 1#32
  let v244 : BitVec 32 := Scalar.select v243 c1_i32_181 c16_i32_179
  let v245 : BitVec 32 := Scalar.remsi v242 v244
  let c0_i32_183 : BitVec 32 := 0#32
  let v247 : BitVec 1 := Scalar.cmpi .slt v245 c0_i32_183
  let c0_i32_184 : BitVec 32 := 0#32
  let v248 : BitVec 1 := Scalar.cmpi .slt v244 c0_i32_184
  let v249 : BitVec 1 := Scalar.xori v247 v248
  let c0_i32_182 : BitVec 32 := 0#32
  let v246 : BitVec 1 := Scalar.cmpi .ne v245 c0_i32_182
  let v250 : BitVec 1 := Scalar.andi v249 v246
  let v251 : BitVec 32 := Scalar.addi v245 v244
  let v252 : BitVec 32 := Scalar.select v250 v251 v245
  let c1_i32_192 : BitVec 32 := 1#32
  let v253 : BitVec 32 := Scalar.muli v252 c1_i32_192
  let v254 : BitVec 32 := Scalar.addi c0_i32_193 v253
  v254.toNat
def k0_dev18 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_198 : BitVec 32 := 3#32
  let v263 : BitVec 32 := Scalar.addi v2 c3_i32_198
  let c16_i32_199 : BitVec 32 := 16#32
  let c0_i32_200 : BitVec 32 := 0#32
  let v264 : BitVec 1 := Scalar.cmpi .eq c16_i32_199 c0_i32_200
  let c1_i32_201 : BitVec 32 := 1#32
  let v265 : BitVec 32 := Scalar.select v264 c1_i32_201 c16_i32_199
  let v266 : BitVec 32 := Scalar.remsi v263 v265
  let c0_i32_203 : BitVec 32 := 0#32
  let v268 : BitVec 1 := Scalar.cmpi .slt v266 c0_i32_203
  let c0_i32_204 : BitVec 32 := 0#32
  let v269 : BitVec 1 := Scalar.cmpi .slt v265 c0_i32_204
  let v270 : BitVec 1 := Scalar.xori v268 v269
  let c0_i32_202 : BitVec 32 := 0#32
  let v267 : BitVec 1 := Scalar.cmpi .ne v266 c0_i32_202
  let v271 : BitVec 1 := Scalar.andi v270 v267
  let v272 : BitVec 32 := Scalar.addi v266 v265
  let v273 : BitVec 32 := Scalar.select v271 v272 v266
  let c1_i32_212 : BitVec 32 := 1#32
  let v274 : BitVec 32 := Scalar.muli v273 c1_i32_212
  let v275 : BitVec 32 := Scalar.addi c0_i32_213 v274
  v275.toNat
def k0_dev19 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_218 : BitVec 32 := 4#32
  let v284 : BitVec 32 := Scalar.addi v2 c4_i32_218
  let c16_i32_219 : BitVec 32 := 16#32
  let c0_i32_220 : BitVec 32 := 0#32
  let v285 : BitVec 1 := Scalar.cmpi .eq c16_i32_219 c0_i32_220
  let c1_i32_221 : BitVec 32 := 1#32
  let v286 : BitVec 32 := Scalar.select v285 c1_i32_221 c16_i32_219
  let v287 : BitVec 32 := Scalar.remsi v284 v286
  let c0_i32_223 : BitVec 32 := 0#32
  let v289 : BitVec 1 := Scalar.cmpi .slt v287 c0_i32_223
  let c0_i32_224 : BitVec 32 := 0#32
  let v290 : BitVec 1 := Scalar.cmpi .slt v286 c0_i32_224
  let v291 : BitVec 1 := Scalar.xori v289 v290
  let c0_i32_222 : BitVec 32 := 0#32
  let v288 : BitVec 1 := Scalar.cmpi .ne v287 c0_i32_222
  let v292 : BitVec 1 := Scalar.andi v291 v288
  let v293 : BitVec 32 := Scalar.addi v287 v286
  let v294 : BitVec 32 := Scalar.select v292 v293 v287
  let c1_i32_232 : BitVec 32 := 1#32
  let v295 : BitVec 32 := Scalar.muli v294 c1_i32_232
  let v296 : BitVec 32 := Scalar.addi c0_i32_233 v295
  v296.toNat
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_238 : BitVec 32 := 5#32
  let v305 : BitVec 32 := Scalar.addi v2 c5_i32_238
  let c16_i32_239 : BitVec 32 := 16#32
  let c0_i32_240 : BitVec 32 := 0#32
  let v306 : BitVec 1 := Scalar.cmpi .eq c16_i32_239 c0_i32_240
  let c1_i32_241 : BitVec 32 := 1#32
  let v307 : BitVec 32 := Scalar.select v306 c1_i32_241 c16_i32_239
  let v308 : BitVec 32 := Scalar.remsi v305 v307
  let c0_i32_243 : BitVec 32 := 0#32
  let v310 : BitVec 1 := Scalar.cmpi .slt v308 c0_i32_243
  let c0_i32_244 : BitVec 32 := 0#32
  let v311 : BitVec 1 := Scalar.cmpi .slt v307 c0_i32_244
  let v312 : BitVec 1 := Scalar.xori v310 v311
  let c0_i32_242 : BitVec 32 := 0#32
  let v309 : BitVec 1 := Scalar.cmpi .ne v308 c0_i32_242
  let v313 : BitVec 1 := Scalar.andi v312 v309
  let v314 : BitVec 32 := Scalar.addi v308 v307
  let v315 : BitVec 32 := Scalar.select v313 v314 v308
  let c1_i32_252 : BitVec 32 := 1#32
  let v316 : BitVec 32 := Scalar.muli v315 c1_i32_252
  let v317 : BitVec 32 := Scalar.addi c0_i32_253 v316
  v317.toNat
def k0_dev21 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_258 : BitVec 32 := 6#32
  let v326 : BitVec 32 := Scalar.addi v2 c6_i32_258
  let c16_i32_259 : BitVec 32 := 16#32
  let c0_i32_260 : BitVec 32 := 0#32
  let v327 : BitVec 1 := Scalar.cmpi .eq c16_i32_259 c0_i32_260
  let c1_i32_261 : BitVec 32 := 1#32
  let v328 : BitVec 32 := Scalar.select v327 c1_i32_261 c16_i32_259
  let v329 : BitVec 32 := Scalar.remsi v326 v328
  let c0_i32_263 : BitVec 32 := 0#32
  let v331 : BitVec 1 := Scalar.cmpi .slt v329 c0_i32_263
  let c0_i32_264 : BitVec 32 := 0#32
  let v332 : BitVec 1 := Scalar.cmpi .slt v328 c0_i32_264
  let v333 : BitVec 1 := Scalar.xori v331 v332
  let c0_i32_262 : BitVec 32 := 0#32
  let v330 : BitVec 1 := Scalar.cmpi .ne v329 c0_i32_262
  let v334 : BitVec 1 := Scalar.andi v333 v330
  let v335 : BitVec 32 := Scalar.addi v329 v328
  let v336 : BitVec 32 := Scalar.select v334 v335 v329
  let c1_i32_272 : BitVec 32 := 1#32
  let v337 : BitVec 32 := Scalar.muli v336 c1_i32_272
  let v338 : BitVec 32 := Scalar.addi c0_i32_273 v337
  v338.toNat
def k0_dev22 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_278 : BitVec 32 := 7#32
  let v347 : BitVec 32 := Scalar.addi v2 c7_i32_278
  let c16_i32_279 : BitVec 32 := 16#32
  let c0_i32_280 : BitVec 32 := 0#32
  let v348 : BitVec 1 := Scalar.cmpi .eq c16_i32_279 c0_i32_280
  let c1_i32_281 : BitVec 32 := 1#32
  let v349 : BitVec 32 := Scalar.select v348 c1_i32_281 c16_i32_279
  let v350 : BitVec 32 := Scalar.remsi v347 v349
  let c0_i32_283 : BitVec 32 := 0#32
  let v352 : BitVec 1 := Scalar.cmpi .slt v350 c0_i32_283
  let c0_i32_284 : BitVec 32 := 0#32
  let v353 : BitVec 1 := Scalar.cmpi .slt v349 c0_i32_284
  let v354 : BitVec 1 := Scalar.xori v352 v353
  let c0_i32_282 : BitVec 32 := 0#32
  let v351 : BitVec 1 := Scalar.cmpi .ne v350 c0_i32_282
  let v355 : BitVec 1 := Scalar.andi v354 v351
  let v356 : BitVec 32 := Scalar.addi v350 v349
  let v357 : BitVec 32 := Scalar.select v355 v356 v350
  let c1_i32_292 : BitVec 32 := 1#32
  let v358 : BitVec 32 := Scalar.muli v357 c1_i32_292
  let v359 : BitVec 32 := Scalar.addi c0_i32_293 v358
  v359.toNat
def k0_dev23 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_298 : BitVec 32 := 8#32
  let v368 : BitVec 32 := Scalar.addi v2 c8_i32_298
  let c16_i32_299 : BitVec 32 := 16#32
  let c0_i32_300 : BitVec 32 := 0#32
  let v369 : BitVec 1 := Scalar.cmpi .eq c16_i32_299 c0_i32_300
  let c1_i32_301 : BitVec 32 := 1#32
  let v370 : BitVec 32 := Scalar.select v369 c1_i32_301 c16_i32_299
  let v371 : BitVec 32 := Scalar.remsi v368 v370
  let c0_i32_303 : BitVec 32 := 0#32
  let v373 : BitVec 1 := Scalar.cmpi .slt v371 c0_i32_303
  let c0_i32_304 : BitVec 32 := 0#32
  let v374 : BitVec 1 := Scalar.cmpi .slt v370 c0_i32_304
  let v375 : BitVec 1 := Scalar.xori v373 v374
  let c0_i32_302 : BitVec 32 := 0#32
  let v372 : BitVec 1 := Scalar.cmpi .ne v371 c0_i32_302
  let v376 : BitVec 1 := Scalar.andi v375 v372
  let v377 : BitVec 32 := Scalar.addi v371 v370
  let v378 : BitVec 32 := Scalar.select v376 v377 v371
  let c1_i32_312 : BitVec 32 := 1#32
  let v379 : BitVec 32 := Scalar.muli v378 c1_i32_312
  let v380 : BitVec 32 := Scalar.addi c0_i32_313 v379
  v380.toNat
def k0_dev24 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_318 : BitVec 32 := 9#32
  let v389 : BitVec 32 := Scalar.addi v2 c9_i32_318
  let c16_i32_319 : BitVec 32 := 16#32
  let c0_i32_320 : BitVec 32 := 0#32
  let v390 : BitVec 1 := Scalar.cmpi .eq c16_i32_319 c0_i32_320
  let c1_i32_321 : BitVec 32 := 1#32
  let v391 : BitVec 32 := Scalar.select v390 c1_i32_321 c16_i32_319
  let v392 : BitVec 32 := Scalar.remsi v389 v391
  let c0_i32_323 : BitVec 32 := 0#32
  let v394 : BitVec 1 := Scalar.cmpi .slt v392 c0_i32_323
  let c0_i32_324 : BitVec 32 := 0#32
  let v395 : BitVec 1 := Scalar.cmpi .slt v391 c0_i32_324
  let v396 : BitVec 1 := Scalar.xori v394 v395
  let c0_i32_322 : BitVec 32 := 0#32
  let v393 : BitVec 1 := Scalar.cmpi .ne v392 c0_i32_322
  let v397 : BitVec 1 := Scalar.andi v396 v393
  let v398 : BitVec 32 := Scalar.addi v392 v391
  let v399 : BitVec 32 := Scalar.select v397 v398 v392
  let c1_i32_332 : BitVec 32 := 1#32
  let v400 : BitVec 32 := Scalar.muli v399 c1_i32_332
  let v401 : BitVec 32 := Scalar.addi c0_i32_333 v400
  v401.toNat
def k0_dev25 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_338 : BitVec 32 := 10#32
  let v410 : BitVec 32 := Scalar.addi v2 c10_i32_338
  let c16_i32_339 : BitVec 32 := 16#32
  let c0_i32_340 : BitVec 32 := 0#32
  let v411 : BitVec 1 := Scalar.cmpi .eq c16_i32_339 c0_i32_340
  let c1_i32_341 : BitVec 32 := 1#32
  let v412 : BitVec 32 := Scalar.select v411 c1_i32_341 c16_i32_339
  let v413 : BitVec 32 := Scalar.remsi v410 v412
  let c0_i32_343 : BitVec 32 := 0#32
  let v415 : BitVec 1 := Scalar.cmpi .slt v413 c0_i32_343
  let c0_i32_344 : BitVec 32 := 0#32
  let v416 : BitVec 1 := Scalar.cmpi .slt v412 c0_i32_344
  let v417 : BitVec 1 := Scalar.xori v415 v416
  let c0_i32_342 : BitVec 32 := 0#32
  let v414 : BitVec 1 := Scalar.cmpi .ne v413 c0_i32_342
  let v418 : BitVec 1 := Scalar.andi v417 v414
  let v419 : BitVec 32 := Scalar.addi v413 v412
  let v420 : BitVec 32 := Scalar.select v418 v419 v413
  let c1_i32_352 : BitVec 32 := 1#32
  let v421 : BitVec 32 := Scalar.muli v420 c1_i32_352
  let v422 : BitVec 32 := Scalar.addi c0_i32_353 v421
  v422.toNat
def k0_dev26 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_358 : BitVec 32 := 11#32
  let v431 : BitVec 32 := Scalar.addi v2 c11_i32_358
  let c16_i32_359 : BitVec 32 := 16#32
  let c0_i32_360 : BitVec 32 := 0#32
  let v432 : BitVec 1 := Scalar.cmpi .eq c16_i32_359 c0_i32_360
  let c1_i32_361 : BitVec 32 := 1#32
  let v433 : BitVec 32 := Scalar.select v432 c1_i32_361 c16_i32_359
  let v434 : BitVec 32 := Scalar.remsi v431 v433
  let c0_i32_363 : BitVec 32 := 0#32
  let v436 : BitVec 1 := Scalar.cmpi .slt v434 c0_i32_363
  let c0_i32_364 : BitVec 32 := 0#32
  let v437 : BitVec 1 := Scalar.cmpi .slt v433 c0_i32_364
  let v438 : BitVec 1 := Scalar.xori v436 v437
  let c0_i32_362 : BitVec 32 := 0#32
  let v435 : BitVec 1 := Scalar.cmpi .ne v434 c0_i32_362
  let v439 : BitVec 1 := Scalar.andi v438 v435
  let v440 : BitVec 32 := Scalar.addi v434 v433
  let v441 : BitVec 32 := Scalar.select v439 v440 v434
  let c1_i32_372 : BitVec 32 := 1#32
  let v442 : BitVec 32 := Scalar.muli v441 c1_i32_372
  let v443 : BitVec 32 := Scalar.addi c0_i32_373 v442
  v443.toNat
def k0_dev27 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_378 : BitVec 32 := 12#32
  let v452 : BitVec 32 := Scalar.addi v2 c12_i32_378
  let c16_i32_379 : BitVec 32 := 16#32
  let c0_i32_380 : BitVec 32 := 0#32
  let v453 : BitVec 1 := Scalar.cmpi .eq c16_i32_379 c0_i32_380
  let c1_i32_381 : BitVec 32 := 1#32
  let v454 : BitVec 32 := Scalar.select v453 c1_i32_381 c16_i32_379
  let v455 : BitVec 32 := Scalar.remsi v452 v454
  let c0_i32_383 : BitVec 32 := 0#32
  let v457 : BitVec 1 := Scalar.cmpi .slt v455 c0_i32_383
  let c0_i32_384 : BitVec 32 := 0#32
  let v458 : BitVec 1 := Scalar.cmpi .slt v454 c0_i32_384
  let v459 : BitVec 1 := Scalar.xori v457 v458
  let c0_i32_382 : BitVec 32 := 0#32
  let v456 : BitVec 1 := Scalar.cmpi .ne v455 c0_i32_382
  let v460 : BitVec 1 := Scalar.andi v459 v456
  let v461 : BitVec 32 := Scalar.addi v455 v454
  let v462 : BitVec 32 := Scalar.select v460 v461 v455
  let c1_i32_392 : BitVec 32 := 1#32
  let v463 : BitVec 32 := Scalar.muli v462 c1_i32_392
  let v464 : BitVec 32 := Scalar.addi c0_i32_393 v463
  v464.toNat
def k0_dev28 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_398 : BitVec 32 := 13#32
  let v473 : BitVec 32 := Scalar.addi v2 c13_i32_398
  let c16_i32_399 : BitVec 32 := 16#32
  let c0_i32_400 : BitVec 32 := 0#32
  let v474 : BitVec 1 := Scalar.cmpi .eq c16_i32_399 c0_i32_400
  let c1_i32_401 : BitVec 32 := 1#32
  let v475 : BitVec 32 := Scalar.select v474 c1_i32_401 c16_i32_399
  let v476 : BitVec 32 := Scalar.remsi v473 v475
  let c0_i32_403 : BitVec 32 := 0#32
  let v478 : BitVec 1 := Scalar.cmpi .slt v476 c0_i32_403
  let c0_i32_404 : BitVec 32 := 0#32
  let v479 : BitVec 1 := Scalar.cmpi .slt v475 c0_i32_404
  let v480 : BitVec 1 := Scalar.xori v478 v479
  let c0_i32_402 : BitVec 32 := 0#32
  let v477 : BitVec 1 := Scalar.cmpi .ne v476 c0_i32_402
  let v481 : BitVec 1 := Scalar.andi v480 v477
  let v482 : BitVec 32 := Scalar.addi v476 v475
  let v483 : BitVec 32 := Scalar.select v481 v482 v476
  let c1_i32_412 : BitVec 32 := 1#32
  let v484 : BitVec 32 := Scalar.muli v483 c1_i32_412
  let v485 : BitVec 32 := Scalar.addi c0_i32_413 v484
  v485.toNat
def k0_dev29 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_418 : BitVec 32 := 14#32
  let v494 : BitVec 32 := Scalar.addi v2 c14_i32_418
  let c16_i32_419 : BitVec 32 := 16#32
  let c0_i32_420 : BitVec 32 := 0#32
  let v495 : BitVec 1 := Scalar.cmpi .eq c16_i32_419 c0_i32_420
  let c1_i32_421 : BitVec 32 := 1#32
  let v496 : BitVec 32 := Scalar.select v495 c1_i32_421 c16_i32_419
  let v497 : BitVec 32 := Scalar.remsi v494 v496
  let c0_i32_423 : BitVec 32 := 0#32
  let v499 : BitVec 1 := Scalar.cmpi .slt v497 c0_i32_423
  let c0_i32_424 : BitVec 32 := 0#32
  let v500 : BitVec 1 := Scalar.cmpi .slt v496 c0_i32_424
  let v501 : BitVec 1 := Scalar.xori v499 v500
  let c0_i32_422 : BitVec 32 := 0#32
  let v498 : BitVec 1 := Scalar.cmpi .ne v497 c0_i32_422
  let v502 : BitVec 1 := Scalar.andi v501 v498
  let v503 : BitVec 32 := Scalar.addi v497 v496
  let v504 : BitVec 32 := Scalar.select v502 v503 v497
  let c1_i32_432 : BitVec 32 := 1#32
  let v505 : BitVec 32 := Scalar.muli v504 c1_i32_432
  let v506 : BitVec 32 := Scalar.addi c0_i32_433 v505
  v506.toNat
def k0_dev30 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_438 : BitVec 32 := 15#32
  let v515 : BitVec 32 := Scalar.addi v2 c15_i32_438
  let c16_i32_439 : BitVec 32 := 16#32
  let c0_i32_440 : BitVec 32 := 0#32
  let v516 : BitVec 1 := Scalar.cmpi .eq c16_i32_439 c0_i32_440
  let c1_i32_441 : BitVec 32 := 1#32
  let v517 : BitVec 32 := Scalar.select v516 c1_i32_441 c16_i32_439
  let v518 : BitVec 32 := Scalar.remsi v515 v517
  let c0_i32_443 : BitVec 32 := 0#32
  let v520 : BitVec 1 := Scalar.cmpi .slt v518 c0_i32_443
  let c0_i32_444 : BitVec 32 := 0#32
  let v521 : BitVec 1 := Scalar.cmpi .slt v517 c0_i32_444
  let v522 : BitVec 1 := Scalar.xori v520 v521
  let c0_i32_442 : BitVec 32 := 0#32
  let v519 : BitVec 1 := Scalar.cmpi .ne v518 c0_i32_442
  let v523 : BitVec 1 := Scalar.andi v522 v519
  let v524 : BitVec 32 := Scalar.addi v518 v517
  let v525 : BitVec 32 := Scalar.select v523 v524 v518
  let c1_i32_452 : BitVec 32 := 1#32
  let v526 : BitVec 32 := Scalar.muli v525 c1_i32_452
  let v527 : BitVec 32 := Scalar.addi c0_i32_453 v526
  v527.toNat
def k0_dev31 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_661 : BitVec 32 := 1#32
  let v648 : BitVec 32 := Scalar.addi v2 c1_i32_661
  let c16_i32_662 : BitVec 32 := 16#32
  let c0_i32_663 : BitVec 32 := 0#32
  let v649 : BitVec 1 := Scalar.cmpi .eq c16_i32_662 c0_i32_663
  let c1_i32_664 : BitVec 32 := 1#32
  let v650 : BitVec 32 := Scalar.select v649 c1_i32_664 c16_i32_662
  let v651 : BitVec 32 := Scalar.remsi v648 v650
  let c0_i32_666 : BitVec 32 := 0#32
  let v653 : BitVec 1 := Scalar.cmpi .slt v651 c0_i32_666
  let c0_i32_667 : BitVec 32 := 0#32
  let v654 : BitVec 1 := Scalar.cmpi .slt v650 c0_i32_667
  let v655 : BitVec 1 := Scalar.xori v653 v654
  let c0_i32_665 : BitVec 32 := 0#32
  let v652 : BitVec 1 := Scalar.cmpi .ne v651 c0_i32_665
  let v656 : BitVec 1 := Scalar.andi v655 v652
  let v657 : BitVec 32 := Scalar.addi v651 v650
  let v658 : BitVec 32 := Scalar.select v656 v657 v651
  let c1_i32_675 : BitVec 32 := 1#32
  let v659 : BitVec 32 := Scalar.muli v658 c1_i32_675
  let v660 : BitVec 32 := Scalar.addi c0_i32_676 v659
  v660.toNat
def k0_dev32 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_681 : BitVec 32 := 2#32
  let v669 : BitVec 32 := Scalar.addi v2 c2_i32_681
  let c16_i32_682 : BitVec 32 := 16#32
  let c0_i32_683 : BitVec 32 := 0#32
  let v670 : BitVec 1 := Scalar.cmpi .eq c16_i32_682 c0_i32_683
  let c1_i32_684 : BitVec 32 := 1#32
  let v671 : BitVec 32 := Scalar.select v670 c1_i32_684 c16_i32_682
  let v672 : BitVec 32 := Scalar.remsi v669 v671
  let c0_i32_686 : BitVec 32 := 0#32
  let v674 : BitVec 1 := Scalar.cmpi .slt v672 c0_i32_686
  let c0_i32_687 : BitVec 32 := 0#32
  let v675 : BitVec 1 := Scalar.cmpi .slt v671 c0_i32_687
  let v676 : BitVec 1 := Scalar.xori v674 v675
  let c0_i32_685 : BitVec 32 := 0#32
  let v673 : BitVec 1 := Scalar.cmpi .ne v672 c0_i32_685
  let v677 : BitVec 1 := Scalar.andi v676 v673
  let v678 : BitVec 32 := Scalar.addi v672 v671
  let v679 : BitVec 32 := Scalar.select v677 v678 v672
  let c1_i32_695 : BitVec 32 := 1#32
  let v680 : BitVec 32 := Scalar.muli v679 c1_i32_695
  let v681 : BitVec 32 := Scalar.addi c0_i32_696 v680
  v681.toNat
def k0_dev33 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_701 : BitVec 32 := 3#32
  let v690 : BitVec 32 := Scalar.addi v2 c3_i32_701
  let c16_i32_702 : BitVec 32 := 16#32
  let c0_i32_703 : BitVec 32 := 0#32
  let v691 : BitVec 1 := Scalar.cmpi .eq c16_i32_702 c0_i32_703
  let c1_i32_704 : BitVec 32 := 1#32
  let v692 : BitVec 32 := Scalar.select v691 c1_i32_704 c16_i32_702
  let v693 : BitVec 32 := Scalar.remsi v690 v692
  let c0_i32_706 : BitVec 32 := 0#32
  let v695 : BitVec 1 := Scalar.cmpi .slt v693 c0_i32_706
  let c0_i32_707 : BitVec 32 := 0#32
  let v696 : BitVec 1 := Scalar.cmpi .slt v692 c0_i32_707
  let v697 : BitVec 1 := Scalar.xori v695 v696
  let c0_i32_705 : BitVec 32 := 0#32
  let v694 : BitVec 1 := Scalar.cmpi .ne v693 c0_i32_705
  let v698 : BitVec 1 := Scalar.andi v697 v694
  let v699 : BitVec 32 := Scalar.addi v693 v692
  let v700 : BitVec 32 := Scalar.select v698 v699 v693
  let c1_i32_715 : BitVec 32 := 1#32
  let v701 : BitVec 32 := Scalar.muli v700 c1_i32_715
  let v702 : BitVec 32 := Scalar.addi c0_i32_716 v701
  v702.toNat
def k0_dev34 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_721 : BitVec 32 := 4#32
  let v711 : BitVec 32 := Scalar.addi v2 c4_i32_721
  let c16_i32_722 : BitVec 32 := 16#32
  let c0_i32_723 : BitVec 32 := 0#32
  let v712 : BitVec 1 := Scalar.cmpi .eq c16_i32_722 c0_i32_723
  let c1_i32_724 : BitVec 32 := 1#32
  let v713 : BitVec 32 := Scalar.select v712 c1_i32_724 c16_i32_722
  let v714 : BitVec 32 := Scalar.remsi v711 v713
  let c0_i32_726 : BitVec 32 := 0#32
  let v716 : BitVec 1 := Scalar.cmpi .slt v714 c0_i32_726
  let c0_i32_727 : BitVec 32 := 0#32
  let v717 : BitVec 1 := Scalar.cmpi .slt v713 c0_i32_727
  let v718 : BitVec 1 := Scalar.xori v716 v717
  let c0_i32_725 : BitVec 32 := 0#32
  let v715 : BitVec 1 := Scalar.cmpi .ne v714 c0_i32_725
  let v719 : BitVec 1 := Scalar.andi v718 v715
  let v720 : BitVec 32 := Scalar.addi v714 v713
  let v721 : BitVec 32 := Scalar.select v719 v720 v714
  let c1_i32_735 : BitVec 32 := 1#32
  let v722 : BitVec 32 := Scalar.muli v721 c1_i32_735
  let v723 : BitVec 32 := Scalar.addi c0_i32_736 v722
  v723.toNat
def k0_dev35 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_741 : BitVec 32 := 5#32
  let v732 : BitVec 32 := Scalar.addi v2 c5_i32_741
  let c16_i32_742 : BitVec 32 := 16#32
  let c0_i32_743 : BitVec 32 := 0#32
  let v733 : BitVec 1 := Scalar.cmpi .eq c16_i32_742 c0_i32_743
  let c1_i32_744 : BitVec 32 := 1#32
  let v734 : BitVec 32 := Scalar.select v733 c1_i32_744 c16_i32_742
  let v735 : BitVec 32 := Scalar.remsi v732 v734
  let c0_i32_746 : BitVec 32 := 0#32
  let v737 : BitVec 1 := Scalar.cmpi .slt v735 c0_i32_746
  let c0_i32_747 : BitVec 32 := 0#32
  let v738 : BitVec 1 := Scalar.cmpi .slt v734 c0_i32_747
  let v739 : BitVec 1 := Scalar.xori v737 v738
  let c0_i32_745 : BitVec 32 := 0#32
  let v736 : BitVec 1 := Scalar.cmpi .ne v735 c0_i32_745
  let v740 : BitVec 1 := Scalar.andi v739 v736
  let v741 : BitVec 32 := Scalar.addi v735 v734
  let v742 : BitVec 32 := Scalar.select v740 v741 v735
  let c1_i32_755 : BitVec 32 := 1#32
  let v743 : BitVec 32 := Scalar.muli v742 c1_i32_755
  let v744 : BitVec 32 := Scalar.addi c0_i32_756 v743
  v744.toNat
def k0_dev36 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_761 : BitVec 32 := 6#32
  let v753 : BitVec 32 := Scalar.addi v2 c6_i32_761
  let c16_i32_762 : BitVec 32 := 16#32
  let c0_i32_763 : BitVec 32 := 0#32
  let v754 : BitVec 1 := Scalar.cmpi .eq c16_i32_762 c0_i32_763
  let c1_i32_764 : BitVec 32 := 1#32
  let v755 : BitVec 32 := Scalar.select v754 c1_i32_764 c16_i32_762
  let v756 : BitVec 32 := Scalar.remsi v753 v755
  let c0_i32_766 : BitVec 32 := 0#32
  let v758 : BitVec 1 := Scalar.cmpi .slt v756 c0_i32_766
  let c0_i32_767 : BitVec 32 := 0#32
  let v759 : BitVec 1 := Scalar.cmpi .slt v755 c0_i32_767
  let v760 : BitVec 1 := Scalar.xori v758 v759
  let c0_i32_765 : BitVec 32 := 0#32
  let v757 : BitVec 1 := Scalar.cmpi .ne v756 c0_i32_765
  let v761 : BitVec 1 := Scalar.andi v760 v757
  let v762 : BitVec 32 := Scalar.addi v756 v755
  let v763 : BitVec 32 := Scalar.select v761 v762 v756
  let c1_i32_775 : BitVec 32 := 1#32
  let v764 : BitVec 32 := Scalar.muli v763 c1_i32_775
  let v765 : BitVec 32 := Scalar.addi c0_i32_776 v764
  v765.toNat
def k0_dev37 (d0 : Dev nD) : Nat :=
  let c0_i32_796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_781 : BitVec 32 := 7#32
  let v774 : BitVec 32 := Scalar.addi v2 c7_i32_781
  let c16_i32_782 : BitVec 32 := 16#32
  let c0_i32_783 : BitVec 32 := 0#32
  let v775 : BitVec 1 := Scalar.cmpi .eq c16_i32_782 c0_i32_783
  let c1_i32_784 : BitVec 32 := 1#32
  let v776 : BitVec 32 := Scalar.select v775 c1_i32_784 c16_i32_782
  let v777 : BitVec 32 := Scalar.remsi v774 v776
  let c0_i32_786 : BitVec 32 := 0#32
  let v779 : BitVec 1 := Scalar.cmpi .slt v777 c0_i32_786
  let c0_i32_787 : BitVec 32 := 0#32
  let v780 : BitVec 1 := Scalar.cmpi .slt v776 c0_i32_787
  let v781 : BitVec 1 := Scalar.xori v779 v780
  let c0_i32_785 : BitVec 32 := 0#32
  let v778 : BitVec 1 := Scalar.cmpi .ne v777 c0_i32_785
  let v782 : BitVec 1 := Scalar.andi v781 v778
  let v783 : BitVec 32 := Scalar.addi v777 v776
  let v784 : BitVec 32 := Scalar.select v782 v783 v777
  let c1_i32_795 : BitVec 32 := 1#32
  let v785 : BitVec 32 := Scalar.muli v784 c1_i32_795
  let v786 : BitVec 32 := Scalar.addi c0_i32_796 v785
  v786.toNat
def k0_dev38 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_801 : BitVec 32 := 8#32
  let v795 : BitVec 32 := Scalar.addi v2 c8_i32_801
  let c16_i32_802 : BitVec 32 := 16#32
  let c0_i32_803 : BitVec 32 := 0#32
  let v796 : BitVec 1 := Scalar.cmpi .eq c16_i32_802 c0_i32_803
  let c1_i32_804 : BitVec 32 := 1#32
  let v797 : BitVec 32 := Scalar.select v796 c1_i32_804 c16_i32_802
  let v798 : BitVec 32 := Scalar.remsi v795 v797
  let c0_i32_806 : BitVec 32 := 0#32
  let v800 : BitVec 1 := Scalar.cmpi .slt v798 c0_i32_806
  let c0_i32_807 : BitVec 32 := 0#32
  let v801 : BitVec 1 := Scalar.cmpi .slt v797 c0_i32_807
  let v802 : BitVec 1 := Scalar.xori v800 v801
  let c0_i32_805 : BitVec 32 := 0#32
  let v799 : BitVec 1 := Scalar.cmpi .ne v798 c0_i32_805
  let v803 : BitVec 1 := Scalar.andi v802 v799
  let v804 : BitVec 32 := Scalar.addi v798 v797
  let v805 : BitVec 32 := Scalar.select v803 v804 v798
  let c1_i32_815 : BitVec 32 := 1#32
  let v806 : BitVec 32 := Scalar.muli v805 c1_i32_815
  let v807 : BitVec 32 := Scalar.addi c0_i32_816 v806
  v807.toNat
def k0_dev39 (d0 : Dev nD) : Nat :=
  let c0_i32_836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_821 : BitVec 32 := 9#32
  let v816 : BitVec 32 := Scalar.addi v2 c9_i32_821
  let c16_i32_822 : BitVec 32 := 16#32
  let c0_i32_823 : BitVec 32 := 0#32
  let v817 : BitVec 1 := Scalar.cmpi .eq c16_i32_822 c0_i32_823
  let c1_i32_824 : BitVec 32 := 1#32
  let v818 : BitVec 32 := Scalar.select v817 c1_i32_824 c16_i32_822
  let v819 : BitVec 32 := Scalar.remsi v816 v818
  let c0_i32_826 : BitVec 32 := 0#32
  let v821 : BitVec 1 := Scalar.cmpi .slt v819 c0_i32_826
  let c0_i32_827 : BitVec 32 := 0#32
  let v822 : BitVec 1 := Scalar.cmpi .slt v818 c0_i32_827
  let v823 : BitVec 1 := Scalar.xori v821 v822
  let c0_i32_825 : BitVec 32 := 0#32
  let v820 : BitVec 1 := Scalar.cmpi .ne v819 c0_i32_825
  let v824 : BitVec 1 := Scalar.andi v823 v820
  let v825 : BitVec 32 := Scalar.addi v819 v818
  let v826 : BitVec 32 := Scalar.select v824 v825 v819
  let c1_i32_835 : BitVec 32 := 1#32
  let v827 : BitVec 32 := Scalar.muli v826 c1_i32_835
  let v828 : BitVec 32 := Scalar.addi c0_i32_836 v827
  v828.toNat
def k0_dev40 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_841 : BitVec 32 := 10#32
  let v837 : BitVec 32 := Scalar.addi v2 c10_i32_841
  let c16_i32_842 : BitVec 32 := 16#32
  let c0_i32_843 : BitVec 32 := 0#32
  let v838 : BitVec 1 := Scalar.cmpi .eq c16_i32_842 c0_i32_843
  let c1_i32_844 : BitVec 32 := 1#32
  let v839 : BitVec 32 := Scalar.select v838 c1_i32_844 c16_i32_842
  let v840 : BitVec 32 := Scalar.remsi v837 v839
  let c0_i32_846 : BitVec 32 := 0#32
  let v842 : BitVec 1 := Scalar.cmpi .slt v840 c0_i32_846
  let c0_i32_847 : BitVec 32 := 0#32
  let v843 : BitVec 1 := Scalar.cmpi .slt v839 c0_i32_847
  let v844 : BitVec 1 := Scalar.xori v842 v843
  let c0_i32_845 : BitVec 32 := 0#32
  let v841 : BitVec 1 := Scalar.cmpi .ne v840 c0_i32_845
  let v845 : BitVec 1 := Scalar.andi v844 v841
  let v846 : BitVec 32 := Scalar.addi v840 v839
  let v847 : BitVec 32 := Scalar.select v845 v846 v840
  let c1_i32_855 : BitVec 32 := 1#32
  let v848 : BitVec 32 := Scalar.muli v847 c1_i32_855
  let v849 : BitVec 32 := Scalar.addi c0_i32_856 v848
  v849.toNat
def k0_dev41 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_861 : BitVec 32 := 11#32
  let v858 : BitVec 32 := Scalar.addi v2 c11_i32_861
  let c16_i32_862 : BitVec 32 := 16#32
  let c0_i32_863 : BitVec 32 := 0#32
  let v859 : BitVec 1 := Scalar.cmpi .eq c16_i32_862 c0_i32_863
  let c1_i32_864 : BitVec 32 := 1#32
  let v860 : BitVec 32 := Scalar.select v859 c1_i32_864 c16_i32_862
  let v861 : BitVec 32 := Scalar.remsi v858 v860
  let c0_i32_866 : BitVec 32 := 0#32
  let v863 : BitVec 1 := Scalar.cmpi .slt v861 c0_i32_866
  let c0_i32_867 : BitVec 32 := 0#32
  let v864 : BitVec 1 := Scalar.cmpi .slt v860 c0_i32_867
  let v865 : BitVec 1 := Scalar.xori v863 v864
  let c0_i32_865 : BitVec 32 := 0#32
  let v862 : BitVec 1 := Scalar.cmpi .ne v861 c0_i32_865
  let v866 : BitVec 1 := Scalar.andi v865 v862
  let v867 : BitVec 32 := Scalar.addi v861 v860
  let v868 : BitVec 32 := Scalar.select v866 v867 v861
  let c1_i32_875 : BitVec 32 := 1#32
  let v869 : BitVec 32 := Scalar.muli v868 c1_i32_875
  let v870 : BitVec 32 := Scalar.addi c0_i32_876 v869
  v870.toNat
def k0_dev42 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_881 : BitVec 32 := 12#32
  let v879 : BitVec 32 := Scalar.addi v2 c12_i32_881
  let c16_i32_882 : BitVec 32 := 16#32
  let c0_i32_883 : BitVec 32 := 0#32
  let v880 : BitVec 1 := Scalar.cmpi .eq c16_i32_882 c0_i32_883
  let c1_i32_884 : BitVec 32 := 1#32
  let v881 : BitVec 32 := Scalar.select v880 c1_i32_884 c16_i32_882
  let v882 : BitVec 32 := Scalar.remsi v879 v881
  let c0_i32_886 : BitVec 32 := 0#32
  let v884 : BitVec 1 := Scalar.cmpi .slt v882 c0_i32_886
  let c0_i32_887 : BitVec 32 := 0#32
  let v885 : BitVec 1 := Scalar.cmpi .slt v881 c0_i32_887
  let v886 : BitVec 1 := Scalar.xori v884 v885
  let c0_i32_885 : BitVec 32 := 0#32
  let v883 : BitVec 1 := Scalar.cmpi .ne v882 c0_i32_885
  let v887 : BitVec 1 := Scalar.andi v886 v883
  let v888 : BitVec 32 := Scalar.addi v882 v881
  let v889 : BitVec 32 := Scalar.select v887 v888 v882
  let c1_i32_895 : BitVec 32 := 1#32
  let v890 : BitVec 32 := Scalar.muli v889 c1_i32_895
  let v891 : BitVec 32 := Scalar.addi c0_i32_896 v890
  v891.toNat
def k0_dev43 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_901 : BitVec 32 := 13#32
  let v900 : BitVec 32 := Scalar.addi v2 c13_i32_901
  let c16_i32_902 : BitVec 32 := 16#32
  let c0_i32_903 : BitVec 32 := 0#32
  let v901 : BitVec 1 := Scalar.cmpi .eq c16_i32_902 c0_i32_903
  let c1_i32_904 : BitVec 32 := 1#32
  let v902 : BitVec 32 := Scalar.select v901 c1_i32_904 c16_i32_902
  let v903 : BitVec 32 := Scalar.remsi v900 v902
  let c0_i32_906 : BitVec 32 := 0#32
  let v905 : BitVec 1 := Scalar.cmpi .slt v903 c0_i32_906
  let c0_i32_907 : BitVec 32 := 0#32
  let v906 : BitVec 1 := Scalar.cmpi .slt v902 c0_i32_907
  let v907 : BitVec 1 := Scalar.xori v905 v906
  let c0_i32_905 : BitVec 32 := 0#32
  let v904 : BitVec 1 := Scalar.cmpi .ne v903 c0_i32_905
  let v908 : BitVec 1 := Scalar.andi v907 v904
  let v909 : BitVec 32 := Scalar.addi v903 v902
  let v910 : BitVec 32 := Scalar.select v908 v909 v903
  let c1_i32_915 : BitVec 32 := 1#32
  let v911 : BitVec 32 := Scalar.muli v910 c1_i32_915
  let v912 : BitVec 32 := Scalar.addi c0_i32_916 v911
  v912.toNat
def k0_dev44 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_921 : BitVec 32 := 14#32
  let v921 : BitVec 32 := Scalar.addi v2 c14_i32_921
  let c16_i32_922 : BitVec 32 := 16#32
  let c0_i32_923 : BitVec 32 := 0#32
  let v922 : BitVec 1 := Scalar.cmpi .eq c16_i32_922 c0_i32_923
  let c1_i32_924 : BitVec 32 := 1#32
  let v923 : BitVec 32 := Scalar.select v922 c1_i32_924 c16_i32_922
  let v924 : BitVec 32 := Scalar.remsi v921 v923
  let c0_i32_926 : BitVec 32 := 0#32
  let v926 : BitVec 1 := Scalar.cmpi .slt v924 c0_i32_926
  let c0_i32_927 : BitVec 32 := 0#32
  let v927 : BitVec 1 := Scalar.cmpi .slt v923 c0_i32_927
  let v928 : BitVec 1 := Scalar.xori v926 v927
  let c0_i32_925 : BitVec 32 := 0#32
  let v925 : BitVec 1 := Scalar.cmpi .ne v924 c0_i32_925
  let v929 : BitVec 1 := Scalar.andi v928 v925
  let v930 : BitVec 32 := Scalar.addi v924 v923
  let v931 : BitVec 32 := Scalar.select v929 v930 v924
  let c1_i32_935 : BitVec 32 := 1#32
  let v932 : BitVec 32 := Scalar.muli v931 c1_i32_935
  let v933 : BitVec 32 := Scalar.addi c0_i32_936 v932
  v933.toNat
def k0_dev45 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_941 : BitVec 32 := 15#32
  let v942 : BitVec 32 := Scalar.addi v2 c15_i32_941
  let c16_i32_942 : BitVec 32 := 16#32
  let c0_i32_943 : BitVec 32 := 0#32
  let v943 : BitVec 1 := Scalar.cmpi .eq c16_i32_942 c0_i32_943
  let c1_i32_944 : BitVec 32 := 1#32
  let v944 : BitVec 32 := Scalar.select v943 c1_i32_944 c16_i32_942
  let v945 : BitVec 32 := Scalar.remsi v942 v944
  let c0_i32_946 : BitVec 32 := 0#32
  let v947 : BitVec 1 := Scalar.cmpi .slt v945 c0_i32_946
  let c0_i32_947 : BitVec 32 := 0#32
  let v948 : BitVec 1 := Scalar.cmpi .slt v944 c0_i32_947
  let v949 : BitVec 1 := Scalar.xori v947 v948
  let c0_i32_945 : BitVec 32 := 0#32
  let v946 : BitVec 1 := Scalar.cmpi .ne v945 c0_i32_945
  let v950 : BitVec 1 := Scalar.andi v949 v946
  let v951 : BitVec 32 := Scalar.addi v945 v944
  let v952 : BitVec 32 := Scalar.select v950 v951 v945
  let c1_i32_955 : BitVec 32 := 1#32
  let v953 : BitVec 32 := Scalar.muli v952 c1_i32_955
  let v954 : BitVec 32 := Scalar.addi c0_i32_956 v953
  v954.toNat
abbrev stage0_0 : Fin 1 → Memref sig .tc .vmem S2x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x4096x8192 : Shape := ⟨3, ![2, 4096, 8192]⟩
abbrev S2x128 : Shape := ⟨2, ![2, 128]⟩
abbrev S128x8192 : Shape := ⟨2, ![128, 8192]⟩
abbrev S_ : Shape := ⟨0, ![]⟩
abbrev S2x4096 : Shape := ⟨2, ![2, 4096]⟩
abbrev S2x4096x1 : Shape := ⟨3, ![2, 4096, 1]⟩
abbrev S2x8192 : Shape := ⟨2, ![2, 8192]⟩
abbrev S2x1x8192 : Shape := ⟨3, ![2, 1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x8192, .f32⟩
  | .hbm, ⟨1, _⟩ => ⟨S2x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x8192, .f32⟩
  | .hbm, ⟨18, _⟩ => ⟨S2x4096x8192, .f32⟩
  | .hbm, ⟨19, _⟩ => ⟨S2x4096x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x8192, .f32⟩
  | .hbm, ⟨35, _⟩ => ⟨S2x4096x8192, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x8192, .f32⟩
  | .hbm, ⟨41, _⟩ => ⟨S2x4096x8192, .f32⟩
  | .hbm, ⟨42, _⟩ => ⟨S2x8192, .f32⟩
  | .hbm, ⟨43, _⟩ => ⟨S2x8192, .f32⟩
  | .hbm, ⟨44, _⟩ => ⟨S2x1x8192, .f32⟩
  | .hbm, ⟨45, _⟩ => ⟨S_, .f32⟩
  | .hbm, ⟨46, _⟩ => ⟨S2x1x8192, .f32⟩
  | .hbm, ⟨47, _⟩ => ⟨S2x1x8192, .f32⟩
  | .hbm, ⟨48, _⟩ => ⟨S2x4096x8192, .f32⟩
  | .hbm, ⟨49, _⟩ => ⟨S2x4096x8192, .f32⟩
  | .hbm, ⟨50, _⟩ => ⟨S2x1x8192, .f32⟩
  | .hbm, ⟨51, _⟩ => ⟨S2x4096x8192, .f32⟩
  | .hbm, ⟨52, _⟩ => ⟨S2x4096x8192, .f32⟩
  | _, _ => ⟨S2x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.ProtoKernelIdeal.lean ====
/-
The exchange protocol of the statistics kernel: its cells, the contents every landing hands over, the schedule,
what a device owes, and one lemma per kind of communication step at a symbolic distance.

Sixteen devices. Device `c` sends its partial sums for time chunk `k` (two chunks) to the device at distance
`d = 1 … 15` (`pl c d`), where they land in slot `(k, d)` of the communication buffer; its own sums are in slot `(k, 0)`.
Cells of a device: the barrier cell (fifteen duties of one unit: the device at distance `e` grants the right to write its
slots `(0, e)` and `(1, e)`), fifteen send cells (two rounds, one per chunk: the share of slot `(k, 0)` lent to the
transfer comes back), and thirty receive cells (one round: slot `(k, d)` holding the sums of the device `d` before).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Writes
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's part and the exchange's part (duties numbered) -/

/-- The exchange's ghost state. -/
abbrev UB : Type := URounds (GSem nD τ sig) ℕ
/-- Both parts. -/
abbrev UU : Type := UR sig nD τ × UB

local notation "𝕄" => MT nD τ sig Unit (Elt F) ℕ UU ℕ

/-- The staging pipeline's part of the ghost state. -/
abbrev EP : Emb (UR sig nD τ) (MT nD τ sig Unit (Elt F) ℕ UU ℕ) := embL
/-- The exchange's part of the ghost state. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Devices at a distance -/

set_option backward.proofsInPublic true in
/-- The device at distance `d` after `c`. -/
def pl (c : Dev nD) (d : ℕ) : Dev nD := ⟨(c.val + d) % 16, Nat.mod_lt _ (by decide)⟩

theorem pl_pl (c : Dev nD) (a b : ℕ) (h : a + b = 16) : pl (pl c a) b = c := by
  have hc : c.val < 16 := c.isLt
  apply Fin.ext; simp only [pl]; omega

/-- Moving every device on by `d` is a permutation of the devices. -/
def shift (d : ℕ) (h : d ≤ 16) : Dev nD ≃ Dev nD :=
  ⟨fun c => pl c d, fun c => pl c (16 - d), fun c => pl_pl c _ _ (by omega), fun c => pl_pl c _ _ (by omega)⟩

/-! ## Buffers, slots -/

/-- The staged block of `x`. -/
abbrev xM : Memref sig .tc .vmem S2x4096x512 .f32 := Memref.whole cc0_stg0_0
/-- The staged `t_emb`. -/
abbrev tM : Memref sig .tc .vmem S2x128 .f32 := Memref.whole cc0_stg1_0
/-- The staged block of the scale weights. -/
abbrev wM : Memref sig .tc .vmem S128x512 .f32 := Memref.whole cc0_stg2_0
/-- The staged block of the shift weights. -/
abbrev vM : Memref sig .tc .vmem S128x512 .f32 := Memref.whole cc0_stg3_0
/-- The staged result. -/
abbrev oM : Memref sig .tc .vmem S2x4096x512 .f32 := Memref.whole cc0_stg4_0
/-- The communication buffer: 2 chunks × 16 slots × 4 rows of statistics × 2048 time steps. -/
abbrev rM : Memref sig .tc .vmem S2x16x4x2048 .f32 := Memref.whole cc0_scratch0

/-- A whole communication buffer's contents. -/
abbrev CBuf (F : FTy → Type) : Type := (cc0_scratch0 : Ref sig .tc).ty.Contents (Elt F)

theorem inbSlot (k j : ℕ) (hk : k < 2) (hj : j < 16) :
    ∀ a, (![k, j, 0, 0] : Fin 4 → ℕ) a + S1x1x4x2048.size a ≤ S2x16x4x2048.size a := by
  intro a
  fin_cases a
  · show k + 1 ≤ 2; omega
  · show j + 1 ≤ 16; omega
  · show 0 + 4 ≤ 4; omega
  · show 0 + 2048 ≤ 2048; omega

/-- The box of slot `(k, j)`. -/
abbrev slotR (k j : ℕ) (hk : k < 2) (hj : j < 16) : Rect S2x16x4x2048 :=
  Rect.unit (s := S2x16x4x2048) ![k, j, 0, 0] S1x1x4x2048.size (inbSlot k j hk hj)

/-- Slot `(k, j)` as the transfers name it. -/
abbrev slot (k j : ℕ) (hk : k < 2) (hj : j < 16) : Memref sig .tc .vmem S4x2048 .f32 :=
  (rM.slice (slotR k j hk hj) (fun _ => rfl)).squeeze S4x2048 squeezes_S1x1x4x2048_S4x2048

/-- The elements of slot `(k, j)`. -/
def slotSet (k j : ℕ) : Finset (cc0_scratch0 : Ref sig .tc).ty.shape.Idx :=
  Finset.univ.filter fun i : S2x16x4x2048.Idx => (i 0).val = k ∧ (i 1).val = j

theorem mem_slotSet {k j : ℕ} {i : S2x16x4x2048.Idx} : i ∈ slotSet k j ↔ (i 0).val = k ∧ (i 1).val = j := by
  unfold slotSet; rw [Finset.mem_filter]; exact ⟨fun h => h.2, fun h => ⟨Finset.mem_univ _, h⟩⟩

theorem mem_slotR {k j : ℕ} {hk : k < 2} {hj : j < 16} {i : S2x16x4x2048.Idx} :
    i ∈ (slotR k j hk hj).set ↔ (i 0).val = k ∧ (i 1).val = j := by
  rw [Rect.mem_set_unit]
  constructor
  · intro h
    have h0 := h 0; have h1 := h 1
    change k ≤ (i 0).val ∧ (i 0).val < k + 1 at h0
    change j ≤ (i 1).val ∧ (i 1).val < j + 1 at h1
    omega
  · rintro ⟨h0, h1⟩ a
    have h2 : (i 2).val < 4 := (i 2).isLt
    have h3 : (i 3).val < 2048 := (i 3).isLt
    fin_cases a
    · show k ≤ (i 0).val ∧ (i 0).val < k + 1; omega
    · show j ≤ (i 1).val ∧ (i 1).val < j + 1; omega
    · show 0 ≤ (i 2).val ∧ (i 2).val < 0 + 4; omega
    · show 0 ≤ (i 3).val ∧ (i 3).val < 0 + 2048; omega

theorem slot_set (k j : ℕ) (hk : k < 2) (hj : j < 16) : (slot k j hk hj).view.set = slotSet k j := by
  show (((View.whole cc0_scratch0).slice (slotR k j hk hj)).reshape S4x2048 _).set = _
  rw [View.set_reshape, View.set_slice_whole]
  ext i
  rw [mem_slotR, mem_slotSet]

/-- Where element `y` of slot `(k, j)` lies: chunk `k`, slot `j`, and rows and columns that do not depend on `(k, j)`. -/
theorem slot_emb (k j : ℕ) (hk : k < 2) (hj : j < 16) (y : S4x2048.Idx) :
    (((slot k j hk hj).view.emb y : S2x16x4x2048.Idx) 0).val = k ∧ (((slot k j hk hj).view.emb y : S2x16x4x2048.Idx) 1).val = j := by
  have h : (slot k j hk hj).view.emb y ∈ (slot k j hk hj).view.set := View.emb_mem_set _ y
  rw [slot_set] at h
  exact mem_slotSet.mp h

theorem slot_emb_rest (k j j' : ℕ) (hk : k < 2) (hj : j < 16) (hj' : j' < 16) (y : S4x2048.Idx) :
    (((slot k j hk hj).view.emb y : S2x16x4x2048.Idx) 2).val = (((slot k j' hk hj').view.emb y : S2x16x4x2048.Idx) 2).val
      ∧ (((slot k j hk hj).view.emb y : S2x16x4x2048.Idx) 3).val = (((slot k j' hk hj').view.emb y : S2x16x4x2048.Idx) 3).val :=
  ⟨rfl, rfl⟩

/-! ## Contents -/

/-- What device `c`'s staged block of `x` holds. -/
def xstg (c : Dev nD) : (cc0_stg0_0 : Ref sig .tc).ty.Contents (Elt F) :=
  (win0_0.blk (0 : Fin 1)).view.read (Elt F) ((s₀ m ρ).mem ((c : Thread nD τ).loc main_arg0))
/-- What device `c`'s staged `t_emb` holds. -/
def tstg (c : Dev nD) : (cc0_stg1_0 : Ref sig .tc).ty.Contents (Elt F) :=
  (win0_1.blk (0 : Fin 1)).view.read (Elt F) ((s₀ m ρ).mem ((c : Thread nD τ).loc main_arg1))
/-- What device `c`'s staged block of the scale weights holds. -/
def wstg (c : Dev nD) : (cc0_stg2_0 : Ref sig .tc).ty.Contents (Elt F) :=
  (win0_2.blk (0 : Fin 1)).view.read (Elt F) ((s₀ m ρ).mem ((c : Thread nD τ).loc main_arg2))
/-- What device `c`'s staged block of the shift weights holds. -/
def vstg (c : Dev nD) : (cc0_stg3_0 : Ref sig .tc).ty.Contents (Elt F) :=
  (win0_3.blk (0 : Fin 1)).view.read (Elt F) ((s₀ m ρ).mem ((c : Thread nD τ).loc main_arg3))

theorem inbX (q : Fin 4) : ∀ a, (![0, 1024 * q.val, 0] : Fin 3 → ℕ) a + S2x1024x512.size a ≤ S2x4096x512.size a := by
  have hq := q.isLt
  intro a
  fin_cases a
  · show 0 + 2 ≤ 2; omega
  · show 1024 * q.val + 1024 ≤ 4096; omega
  · show 0 + 512 ≤ 512; omega

/-- The box of the `q`-th 1024 time steps. -/
abbrev xR (q : Fin 4) : Rect S2x4096x512 := Rect.unit (s := S2x4096x512) ![0, 1024 * q.val, 0] S2x1024x512.size (inbX q)

/-- The `q`-th 1024 time steps of a block. -/
def xch (q : Fin 4) (f : (cc0_stg0_0 : Ref sig .tc).ty.Contents (Elt F)) : Vec F S2x1024x512 .f32 :=
  xM.view.readAt (Elt F) (xR q).toLoadRect f

/-- The place of a row and a column in a stored box of statistics. -/
def boxIdx (i : Fin 2) (r : Fin 1024) : S1x1x2x1024.Idx
  | ⟨0, _⟩ => ⟨0, Nat.one_pos⟩
  | ⟨1, _⟩ => ⟨0, Nat.one_pos⟩
  | ⟨2, _⟩ => i
  | ⟨3, _⟩ => r

/-- Device `p`'s statistics of chunk `k`: row `i` (two batch rows of sums, two of sums of squares), column `r`. -/
def stat (p : Dev nD) (k : Fin 2) (i : Fin 4) (r : Fin 2048) : Elt F .f32 :=
  let v := xch (⟨2 * k.val + r.val / 1024, by omega⟩ : Fin 4) (xstg m ρ p)
  if i.val < 2 then k0_pay2 v (boxIdx ⟨i.val % 2, by omega⟩ ⟨r.val % 1024, by omega⟩)
  else k0_pay3 v (boxIdx ⟨i.val % 2, by omega⟩ ⟨r.val % 1024, by omega⟩)

/-- The communication buffer of device `c` once everything has landed: slot `j` holds the statistics of the device `j` before. -/
def CA (c : Dev nD) : CBuf F := fun i : S2x16x4x2048.Idx => stat m ρ (pl c (16 - (i 1).val)) (i 0) (i 2) (i 3)

/-- A transfer at distance `d` out of slot `(k, 0)` of `c` lands what slot `(k, d)` of its target is to hold. -/
theorem landing (c : Dev nD) (k d : ℕ) (hk : k < 2) (hd : d < 16) (fd : CBuf F) :
    ∀ i ∈ slotSet k d, (slot k d hk hd).view.write (Elt F) fd ((slot k 0 hk (by omega)).view.read (Elt F) (CA m ρ c)) Finset.univ i
      = CA m ρ (pl c d) i := by
  intro i hi
  rw [← slot_set k d hk hd] at hi
  obtain ⟨y, -, rfl⟩ := Finset.mem_map.mp hi
  rw [View.write_emb_of_mem _ _ (Finset.mem_univ _)]
  have hz : (0 : ℕ) < 16 := by decide
  obtain ⟨h0, h1⟩ := slot_emb k d hk hd y
  obtain ⟨g0, g1⟩ := slot_emb k 0 hk hz y
  obtain ⟨e2, e3⟩ := slot_emb_rest k d 0 hk hd hz y
  show CA m ρ c ((slot k 0 hk hz).view.emb y) = CA m ρ (pl c d) ((slot k d hk hd).view.emb y)
  unfold CA
  rw [h1, g1, pl_pl c d _ (by omega), show pl c (16 - 0) = c from Fin.ext (by have hc : c.val < 16 := c.isLt; simp only [pl]; omega)]
  congr 1

/-! ## Shares of a slot lent to the transfers -/

/-- What is left of a slot's share after lending to `n` transfers. -/
def rem : ℕ → PosShare TreeShare
  | 0 => fullShare
  | n + 1 => (rem n).left
/-- What the `n`-th transfer is lent. -/
def piece (n : ℕ) : PosShare TreeShare := (rem (n - 1)).right

/-- The elements of slot `(k, j)` of device `c` at a share. -/
def slotPts (c : Dev nD) (k j : ℕ) (q : PosShare TreeShare) (f : CBuf F) : sProp 𝕄 :=
  ((c : Thread nD τ).loc cc0_scratch0) ↦[slotSet k j]{q} f

omit [FloatOps F] in
instance slotPts_storable (c : Dev nD) (k j : ℕ) (q f) : BI.Storable (upEmb : UEmb _ 𝕄) (slotPts (F := F) c k j q f) := by
  unfold slotPts; infer_instance

omit [FloatOps F] in
/-- Lending to one more transfer. -/
theorem slotPts_lend (c : Dev nD) (k j n : ℕ) (f : CBuf F) :
    (slotPts c k j (rem n) f : sProp 𝕄) ⊣⊢ iprop(slotPts c k j (rem (n + 1)) f ∗ slotPts c k j (piece (n + 1)) f) :=
  pointsTo_share (PosShare.mem_left_op_right (rem n))

/-! ## Cells -/

/-- The runtime's barrier semaphore. -/
abbrev barS : Sem sig := (SemArray.scalar (sig.barrier 0 rfl) : Sems sig S_).sem

set_option backward.proofsInPublic true in
/-- The kernel's own semaphore number `d - 1` of group `a` (0: sends; 1, 2: receives of chunk 0, 1), counting from `d = 1`. -/
def oS (a d : ℕ) : DmaSem sig := ⟨(4 + 15 * a + d) % 50, Nat.mod_lt _ (by decide)⟩

/-- The barrier cell. -/
abbrev barCell (c : Dev nD) : GSem nD τ sig := ((c : Thread nD τ), .reg barS)
/-- The kernel's own cells. -/
abbrev oCell (c : Dev nD) (a d : ℕ) : GSem nD τ sig := ((c : Thread nD τ), .dma (oS a d))

/-- The kernel's own semaphores, as the launch indexes them. -/
def osem (i : Fin 3 × Fin 15) : SemLoc sig := .dma (oS i.1.val (i.2.val + 1))

/-- The credit of one transfer. -/
abbrev N : ℕ := (slot 0 0 (by decide) (by decide)).view.dmaCredit
theorem N_pos : 0 < N := View.dmaCredit_pos _ (by decide)
theorem N_eq (k j : ℕ) (hk : k < 2) (hj : j < 16) (a d : ℕ) : (slot k j hk hj).view.amount (.dma (oS a d)) = N := rfl

/-! ## The schedule -/

/-- The right to write slots `(0, e)` and `(1, e)` of the device at distance `e`. -/
def barPay (c : Dev nD) (e : ℕ) : sProp 𝕄 := iprop((∃ f : CBuf F, slotPts (pl c e) 0 e fullShare f) ∗ ∃ f : CBuf F, slotPts (pl c e) 1 e fullShare f)

/-- The schedule of the exchange. -/
def Rd : Rounds.Schedule (GSem nD τ sig) ℕ 𝕄 where
  duties g r := match g.2 with
    | .reg _ => if g.1.2 = .tc ∧ r = 0 then Finset.Ioc 0 15 else ∅
    | .dma s => if g.1.2 = .tc ∧ ((5 ≤ s.val ∧ s.val < 20 ∧ r < 2) ∨ (20 ≤ s.val ∧ r = 0)) then {0} else ∅
  unitless _ := False
  amount g _ _ := match g.2 with
    | .reg _ => 1
    | .dma _ => N
  payload g r d := match g.2 with
    | .reg _ => barPay g.1.1 d
    | .dma s => if s.val < 20 then slotPts g.1.1 r 0 (piece (s.val - 4)) (CA m ρ g.1.1)
        else slotPts g.1.1 ((s.val - 20) / 15) ((s.val - 20) % 15 + 1) fullShare (CA m ρ g.1.1)
  amount_pos g _ _ _ := by
    rcases g with ⟨t, s⟩
    cases s
    · exact Nat.one_pos
    · exact N_pos

instance Rd_storable (g : GSem nD τ sig) (r : ℕ) (d : ℕ) :
    BI.Storable (upEmb : UEmb _ 𝕄) ((Rd (F := F) m ρ).payload g r d) := by
  rcases g with ⟨t, s⟩
  cases s
  · show BI.Storable upEmb (barPay t.1 d)
    unfold barPay; infer_instance
  · rename_i s
    show BI.Storable upEmb (if s.val < 20 then slotPts t.1 r 0 (piece (s.val - 4)) (CA m ρ t.1)
        else slotPts t.1 ((s.val - 20) / 15) ((s.val - 20) % 15 + 1) fullShare (CA m ρ t.1))
    split <;> infer_instance

theorem oS_val (a d : ℕ) (ha : a < 3) (hd : 1 ≤ d) (hd' : d ≤ 15) : (oS a d).val = 4 + 15 * a + d := by
  show (4 + 15 * a + d) % 50 = _
  omega

section Sched
variable (c : Dev nD)

theorem duties_bar : (Rd (F := F) m ρ).duties (barCell c) 0 = Finset.Ioc 0 15 := by
  dsimp only [Rd]; exact if_pos ⟨rfl, rfl⟩

theorem duties_send (r d : ℕ) (hr : r < 2) (hd : 1 ≤ d) (hd' : d ≤ 15) : (Rd (F := F) m ρ).duties (oCell c 0 d) r = {0} := by
  have h := oS_val 0 d (by decide) hd hd'
  exact if_pos ⟨rfl, .inl ⟨by omega, by omega, hr⟩⟩

theorem duties_recv (k d : ℕ) (hk : k < 2) (hd : 1 ≤ d) (hd' : d ≤ 15) : (Rd (F := F) m ρ).duties (oCell c (1 + k) d) 0 = {0} := by
  have h := oS_val (1 + k) d (by omega) hd hd'
  exact if_pos ⟨rfl, .inr ⟨by omega, rfl⟩⟩

theorem duties_bar_later (r : ℕ) (hr : 1 ≤ r) : (Rd (F := F) m ρ).duties (barCell c) r = ∅ := if_neg fun h => by omega

theorem duties_send_later (d : ℕ) (hd : 1 ≤ d) (hd' : d ≤ 15) (r : ℕ) (hr : 2 ≤ r) : (Rd (F := F) m ρ).duties (oCell c 0 d) r = ∅ := by
  have h := oS_val 0 d (by decide) hd hd'
  exact if_neg fun h => by omega

theorem duties_recv_later (k d : ℕ) (hk : k < 2) (hd : 1 ≤ d) (hd' : d ≤ 15) (r : ℕ) (hr : 1 ≤ r) :
    (Rd (F := F) m ρ).duties (oCell c (1 + k) d) r = ∅ := by
  have h := oS_val (1 + k) d (by omega) hd hd'
  exact if_neg fun h => by omega

theorem amount_bar (d : ℕ) : (Rd (F := F) m ρ).amount (barCell c) 0 d = 1 := rfl
theorem amount_o (a e r d : ℕ) : (Rd (F := F) m ρ).amount (oCell c a e) r d = N := rfl

theorem expect_bar : (Rd (F := F) m ρ).expect (barCell c) 0 = 15 := by
  unfold Schedule.expect Schedule.amountOf
  rw [duties_bar, Finset.sum_congr rfl fun d _ => amount_bar m ρ c d, Finset.sum_const, Nat.card_Ioc, smul_eq_mul]
theorem expect_send (r d : ℕ) (hr : r < 2) (hd : 1 ≤ d) (hd' : d ≤ 15) : (Rd (F := F) m ρ).expect (oCell c 0 d) r = N := by
  unfold Schedule.expect Schedule.amountOf; rw [duties_send m ρ c r d hr hd hd', Finset.sum_singleton, amount_o]
theorem expect_recv (k d : ℕ) (hk : k < 2) (hd : 1 ≤ d) (hd' : d ≤ 15) : (Rd (F := F) m ρ).expect (oCell c (1 + k) d) 0 = N := by
  unfold Schedule.expect Schedule.amountOf; rw [duties_recv m ρ c k d hk hd hd', Finset.sum_singleton, amount_o]

theorem payload_bar (d : ℕ) : (Rd (F := F) m ρ).payload (barCell c) 0 d = barPay c d := rfl
theorem payload_send (r d e : ℕ) (hd : 1 ≤ d) (hd' : d ≤ 15) :
    (Rd (F := F) m ρ).payload (oCell c 0 d) r e = slotPts c r 0 (piece d) (CA m ρ c) := by
  have h := oS_val 0 d (by decide) hd hd'
  refine (if_pos (by omega)).trans ?_
  rw [h, show 4 + 15 * 0 + d - 4 = d by omega]
theorem payload_recv (k d e : ℕ) (hk : k < 2) (hd : 1 ≤ d) (hd' : d ≤ 15) :
    (Rd (F := F) m ρ).payload (oCell c (1 + k) d) 0 e = slotPts c k d fullShare (CA m ρ c) := by
  have h := oS_val (1 + k) d (by omega) hd hd'
  refine (if_neg (by omega)).trans ?_
  rw [h, show (4 + 15 * (1 + k) + d - 20) / 15 = k by omega, show (4 + 15 * (1 + k) + d - 20) % 15 + 1 = d by omega]

theorem rest_bar : bigSep ((Rd (F := F) m ρ).duties (barCell c) 0 \ ∅) (fun d => (Rd (F := F) m ρ).payload (barCell c) 0 d)
    = bigSep (Finset.Ioc 0 15) fun e => barPay c e := by
  rw [Finset.sdiff_empty, duties_bar]; rfl
theorem rest_send (r d : ℕ) (hr : r < 2) (hd : 1 ≤ d) (hd' : d ≤ 15) :
    bigSep ((Rd (F := F) m ρ).duties (oCell c 0 d) r \ ∅) (fun e => (Rd (F := F) m ρ).payload (oCell c 0 d) r e)
      = slotPts c r 0 (piece d) (CA m ρ c) := by
  rw [Finset.sdiff_empty, duties_send m ρ c r d hr hd hd', bigSep_singleton, payload_send m ρ c r d _ hd hd']
theorem rest_recv (k d : ℕ) (hk : k < 2) (hd : 1 ≤ d) (hd' : d ≤ 15) :
    bigSep ((Rd (F := F) m ρ).duties (oCell c (1 + k) d) 0 \ ∅) (fun e => (Rd (F := F) m ρ).payload (oCell c (1 + k) d) 0 e)
      = slotPts c k d fullShare (CA m ρ c) := by
  rw [Finset.sdiff_empty, duties_recv m ρ c k d hk hd hd', bigSep_singleton, payload_recv m ρ c k d _ hk hd hd']

end Sched

/-! ## What a device owes; levels -/

/-- The barrier units a device still owes after `n` signals. -/
def OB (n : ℕ) (c : Dev nD) : CellTallies nD τ sig Unit := ∑ d ∈ Finset.Ioc n 15, tallyAt (barCell (pl c d)) () 1
/-- The receive credit of chunk `k` a device still owes after `n` transfers. -/
def OR (k n : ℕ) (c : Dev nD) : CellTallies nD τ sig Unit := ∑ d ∈ Finset.Ioc n 15, tallyAt (oCell (pl c d) (1 + k) d) () N

theorem Ioc_head (n : ℕ) (hn : n < 15) : Finset.Ioc n 15 = insert (n + 1) (Finset.Ioc (n + 1) 15) := by
  ext x; simp only [Finset.mem_Ioc, Finset.mem_insert]; omega
theorem Ioc_last (n : ℕ) : Finset.Ioc 0 (n + 1) = insert (n + 1) (Finset.Ioc 0 n) := by
  ext x; simp only [Finset.mem_Ioc, Finset.mem_insert]; omega
theorem not_mem_head (n : ℕ) : n + 1 ∉ Finset.Ioc (n + 1) 15 := by simp
theorem not_mem_last (n : ℕ) : n + 1 ∉ Finset.Ioc 0 n := by simp

theorem OB_step (n : ℕ) (hn : n < 15) (c : Dev nD) : OB n c = OB (n + 1) c + tallyAt (barCell (pl c (n + 1))) () 1 := by
  unfold OB; rw [Ioc_head n hn, Finset.sum_insert (not_mem_head n), add_comm]
theorem OR_step (k n : ℕ) (hn : n < 15) (c : Dev nD) : OR k n c = OR k (n + 1) c + tallyAt (oCell (pl c (n + 1)) (1 + k) (n + 1)) () N := by
  unfold OR; rw [Ioc_head n hn, Finset.sum_insert (not_mem_head n), add_comm]
theorem OB_end (c : Dev nD) : OB 15 c = 0 := by unfold OB; rw [Finset.Ioc_self, Finset.sum_empty]
theorem OR_end (k : ℕ) (c : Dev nD) : OR k 15 c = 0 := by unfold OR; rw [Finset.Ioc_self, Finset.sum_empty]

/-- What a device owes at launch. -/
def O₀ (c : Dev nD) : CellTallies nD τ sig Unit := (OR 1 0 c + OR 0 0 c) + OB 0 c

/-- Every TensorCore cell carries the one level. -/
def L (g : GSem nD τ sig) : Finset Unit := if g.1.2 = .tc then {()} else ∅
/-- Barrier cells at 1, receive cells at 2, staging and send cells at 0. -/
def lv (g : GSem nD τ sig) (_ : Unit) : ℕ := match g.2 with
  | .reg _ => 1
  | .dma s => if 20 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem OB_pos {n : ℕ} {c : Dev nD} {g : GSem nD τ sig} {u : Unit} (h : 0 < OB n c g u) : ∃ p, g = barCell p := by
  unfold OB at h
  rw [Finset.sum_apply, Finsupp.finset_sum_apply] at h
  obtain ⟨d, -, hd⟩ := Finset.exists_ne_zero_of_sum_ne_zero (Nat.pos_iff_ne_zero.mp h)
  rw [tallyAt_apply] at hd
  exact ⟨_, (by by_contra hc; exact hd (if_neg hc) : _ ∧ _).1⟩
theorem OR_pos {k n : ℕ} (hk : k < 2) {c : Dev nD} {g : GSem nD τ sig} {u : Unit} (h : 0 < OR k n c g u) :
    ∃ p d, 1 ≤ d ∧ d ≤ 15 ∧ g = oCell p (1 + k) d := by
  unfold OR at h
  rw [Finset.sum_apply, Finsupp.finset_sum_apply] at h
  obtain ⟨d, hm, hd⟩ := Finset.exists_ne_zero_of_sum_ne_zero (Nat.pos_iff_ne_zero.mp h)
  rw [tallyAt_apply] at hd
  rw [Finset.mem_Ioc] at hm
  exact ⟨_, d, by omega, by omega, (by by_contra hc; exact hd (if_neg hc) : _ ∧ _).1⟩

theorem lv_recv (p : Dev nD) (k d : ℕ) (hk : k < 2) (hd : 1 ≤ d) (hd' : d ≤ 15) : lv (oCell p (1 + k) d) () = 2 := by
  have h := oS_val (1 + k) d (by omega) hd hd'
  exact if_pos (by omega)

omit [FloatOps F] in
/-- A wait on a cell below everything a device owes is allowed. -/
theorem mayWait_of (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

omit [FloatOps F] in
/-- Staging waits, under what is owed at launch. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  have hl : lv ((c : Thread nD τ), .dma q) () = 0 := if_neg (by omega)
  refine mayWait_of c _ O fun g u hg => ?_
  rcases hO with rfl | rfl
  · unfold O₀ at hg
    rw [Pi.add_apply, Finsupp.add_apply, Pi.add_apply, Finsupp.add_apply] at hg
    rw [hl]
    rcases Nat.eq_zero_or_pos (OB 0 c g u) with hb | hb
    · rcases Nat.eq_zero_or_pos (OR 1 0 c g u) with h1 | h1
      · obtain ⟨p, d, h, h', rfl⟩ := OR_pos (k := 0) (by decide) (show 0 < OR 0 0 c g u by omega)
        exact ⟨rfl, by rw [lv_recv _ _ _ (by decide) h h']; decide⟩
      · obtain ⟨p, d, h, h', rfl⟩ := OR_pos (k := 1) (by decide) h1
        exact ⟨rfl, by rw [lv_recv _ _ _ (by decide) h h']; decide⟩
    · obtain ⟨p, rfl⟩ := OB_pos hb
      exact ⟨rfl, Nat.one_pos⟩
  · exact absurd hg (Nat.lt_irrefl 0)

omit [FloatOps F] in
/-- The barrier wait, owing receive credit only. -/
theorem mayWait_bar (c : Dev nD) : (levAts L lv : sProp 𝕄) ⊢ MayWait (c : Thread nD τ) (.reg barS) () (OR 1 0 c + OR 0 0 c) := by
  refine mayWait_of c _ _ fun g u hg => ?_
  rw [Pi.add_apply, Finsupp.add_apply] at hg
  show _ ∧ 1 < _
  rcases Nat.eq_zero_or_pos (OR 1 0 c g u) with h1 | h1
  · obtain ⟨p, d, h, h', rfl⟩ := OR_pos (k := 0) (by decide) (show 0 < OR 0 0 c g u by omega)
    exact ⟨rfl, by rw [lv_recv _ _ _ (by decide) h h']; decide⟩
  · obtain ⟨p, d, h, h', rfl⟩ := OR_pos (k := 1) (by decide) h1
    exact ⟨rfl, by rw [lv_recv _ _ _ (by decide) h h']; decide⟩

omit [FloatOps F] in
/-- The waits on the send cells, owing at most chunk 1's receive credit. -/
theorem mayWait_send (c : Dev nD) (d : ℕ) (hd : 1 ≤ d) (hd' : d ≤ 15) (O : CellTallies nD τ sig Unit) (hO : O = OR 1 0 c ∨ O = 0) :
    (levAts L lv : sProp 𝕄) ⊢ MayWait (c : Thread nD τ) (.dma (oS 0 d)) () O := by
  have h := oS_val 0 d (by decide) hd hd'
  have hl : lv (oCell c 0 d) () = 0 := if_neg (by omega)
  refine mayWait_of c _ O fun g u hg => ?_
  rw [hl]
  rcases hO with rfl | rfl
  · obtain ⟨p, d, h, h', rfl⟩ := OR_pos (k := 1) (by decide) hg
    exact ⟨rfl, by rw [lv_recv _ _ _ (by decide) h h']; decide⟩
  · exact absurd hg (Nat.lt_irrefl 0)

end Cert.KernelIdeal.Hand
-- ==== Proof.StepsKernelIdeal.lean ====
/-
One lemma per kind of communication step, at a symbolic distance `n + 1`: the state after `n` steps becomes the state
after `n + 1`.
-/
module

public import proofs.«01_k».proof.Proof.ProtoKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No variants: the kernel has no loop. -/
abbrev 𝒱₀ : Variants := Variants.none

/-- One summand set apart. -/
theorem big_insert {I : Type} [DecidableEq I] {i : I} {s : Finset I} (h : i ∉ s) {Φ : I → sProp 𝕄} :
    bigSep (insert i s) Φ = iprop(Φ i ∗ bigSep s Φ) := bigSep_insert h

/-- One summand kept, the rest dropped. -/
theorem big_elim {I : Type} [DecidableEq I] {i : I} {s : Finset I} {Φ : I → sProp 𝕄} (h : i ∈ s) : bigSep s Φ ⊢ Φ i := bigSep_elim h

/-! ## What every device knows for good -/

/-- The kernel's own cell of a device, as the launch indexes them. -/
def kcell (x : Dev nD × (Fin 3 × Fin 15)) : GSem nD τ sig := ((x.1 : Thread nD τ), osem x.2)

/-- Every cell's invariant, and every cell's round 0 reached. -/
def records : sProp 𝕄 :=
  iprop((bigSep Finset.univ fun c : Dev nD => iprop(∃ κ : ℕ, cellInv ER (Rd m ρ) κ (barCell c)))
    ∗ (bigSep Finset.univ fun x : Dev nD × (Fin 3 × Fin 15) => iprop(∃ κ : ℕ, cellInv ER (Rd m ρ) κ (kcell x)))
    ∗ (bigSep Finset.univ fun c : Dev nD => reached ER (barCell c) 0)
    ∗ (bigSep Finset.univ fun x : Dev nD × (Fin 3 × Fin 15) => reached ER (kcell x) 0))

instance records_persistent : BI.Persistent (records (F := F) m ρ) := by unfold records; infer_instance

theorem kcell_eq (c : Dev nD) (a d : ℕ) (ha : a < 3) (hd : 1 ≤ d) (hd' : d ≤ 15) :
    kcell (c, (⟨a, ha⟩, ⟨d - 1, by omega⟩)) = oCell c a d := by
  show oCell c a (d - 1 + 1) = oCell c a d
  rw [Nat.sub_add_cancel hd]

theorem inv_bar (c : Dev nD) : records (F := F) m ρ ⊢ iprop(∃ κ : ℕ, cellInv ER (Rd m ρ) κ (barCell c)) := by
  unfold records
  iintro ⟨H, -⟩
  iapply (big_elim (Φ := fun c : Dev nD => iprop(∃ κ : ℕ, cellInv ER (Rd m ρ) κ (barCell c))) (Finset.mem_univ c)); iexact H
theorem inv_o (c : Dev nD) (a d : ℕ) (ha : a < 3) (hd : 1 ≤ d) (hd' : d ≤ 15) :
    records (F := F) m ρ ⊢ iprop(∃ κ : ℕ, cellInv ER (Rd m ρ) κ (oCell c a d)) := by
  rw [← kcell_eq c a d ha hd hd']
  unfold records
  iintro ⟨-, H, -⟩
  iapply (big_elim (Φ := fun x : Dev nD × (Fin 3 × Fin 15) => iprop(∃ κ : ℕ, cellInv ER (Rd m ρ) κ (kcell x))) (Finset.mem_univ _)); iexact H
theorem reached_bar (c : Dev nD) : records (F := F) m ρ ⊢ reached ER (barCell c) 0 := by
  unfold records
  iintro ⟨-, -, H, -⟩
  iapply (big_elim (Φ := fun c : Dev nD => (reached ER (barCell c) 0 : sProp 𝕄)) (Finset.mem_univ c)); iexact H
theorem reached_o (c : Dev nD) (a d : ℕ) (ha : a < 3) (hd : 1 ≤ d) (hd' : d ≤ 15) :
    records (F := F) m ρ ⊢ reached ER (oCell c a d) 0 := by
  rw [← kcell_eq c a d ha hd hd']
  unfold records
  iintro ⟨-, -, -, H⟩
  iapply (big_elim (Φ := fun x : Dev nD × (Fin 3 × Fin 15) => (reached ER (kcell x) 0 : sProp 𝕄)) (Finset.mem_univ _)); iexact H
/-! ## The signals -/

/-- After `n` signals: the barrier units still owed, and per remaining distance the duty to pay and the rights it hands over. -/
def SA (n : ℕ) (O : CellTallies nD τ sig Unit) (c : Dev nD) : sProp 𝕄 :=
  iprop((∃ W, owes (c : Thread nD τ) (O + OB n c) W)
    ∗ bigSep (Finset.Ioc n 15) fun d => iprop(dutyTok ER (barCell (pl c d)) 0 (16 - d)
        ∗ (∃ f : CBuf F, slotPts c 0 (16 - d) fullShare f) ∗ ∃ f : CBuf F, slotPts c 1 (16 - d) fullShare f))

theorem signal_step (c p : Dev nD) (n : ℕ) (hn : n < 15) (hp : p = pl c (n + 1)) (O : CellTallies nD τ sig Unit)
    {α : Type} {Q : α → sProp 𝕄} {k : PUnit → Prog (TpuEff nD τ sig (Elt F) Λ₀ .tc) α} :
    iprop(records m ρ ∗ SA n O c)
      ⊢ iprop((SA (n + 1) O c -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc p : Thread nD τ) barS 1) k) Q) := by
  subst hp
  unfold SA
  rw [Ioc_head n hn, big_insert (not_mem_head n), OB_step n hn c, ← add_assoc]
  iintro ⟨#HR, ⟨%W, HO⟩, ⟨Htok, H0, H1⟩, Hrest⟩ Hk
  ihave HI := (inv_bar m ρ (pl c (n + 1))) $$ HR
  icases HI with ⟨%κ, #HI⟩
  iapply (Rounds.wp_signal 𝒱₀ ER (Rd m ρ) (c : Thread nD τ) none (dst := (pl c (n + 1) : Thread nD τ)) (κ := κ)
      (d := 16 - (n + 1)) (by rw [duties_bar, Finset.mem_Ioc]; omega) (amount_bar m ρ (pl c (n + 1)) _) () (O + OB (n + 1) c) rfl)
    $$ [HO Htok H0 H1]
  · isplitr; · iexact HI
    isplitl [HO]; · iexact HO
    isplitl [Htok]; · iexact Htok
    isplitl [H0 H1]
    · rw [payload_bar]; unfold barPay; rw [pl_pl c (n + 1) (16 - (n + 1)) (by omega)]
      isplitl [H0]; · iexact H0
      iexact H1
    · iapply (reached_bar m ρ (pl c (n + 1))); iexact HR
  iintro HO
  iapply Hk
  isplitl [HO]; · iexists W; iexact HO
  iexact Hrest

/-- The barrier wait: the rights to write the other devices' slots. -/
theorem bar_wait (c : Dev nD) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.reg barS) 15 K)
    {α : Type} {Q : α → sProp 𝕄} {k : PUnit → Prog (TpuEff nD τ sig (Elt F) Λ₀ .tc) α} :
    iprop((levAts L lv : sProp 𝕄) ∗ records m ρ ∗ (∃ W, owes (c : Thread nD τ) (OR 1 0 c + OR 0 0 c) W) ∗ cred (tallyAt (barCell c) () 15) ∗ atPos ER (barCell c) 0 ∅ 0)
      ⊢ iprop((((∃ W, owes (c : Thread nD τ) (OR 1 0 c + OR 0 0 c) W) ∗ atPos ER (barCell c) 1 ∅ 0 ∗ bigSep (Finset.Ioc 0 15) fun e => barPay c e)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HL, #HR, ⟨%W, HO⟩, Hc, Hat⟩ Hk
  ihave HI := (inv_bar m ρ c) $$ HR
  icases HI with ⟨%κ, #HI⟩
  iapply (Rounds.wp_wait_rest_token 𝒱₀ ER (Rd m ρ) (c : Thread nD τ) none (κ := κ) hw (Set.mem_univ _) ()
      (O := OR 1 0 c + OR 0 0 c) (W := W) (R := 0) (m := 0) (T := ∅) (expect_bar m ρ c).symm) $$ [Hc HO Hat]
  · isplitr; · iexact HI
    isplitl [Hc]; · iexact Hc
    isplitl [HO]; · iexact HO
    isplitr; · iapply (mayWait_bar (F := F) c); iexact HL
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-! ## The transfers of one chunk -/

/-- After `n` transfers of chunk `k`: the receive credit still owed, what is left of the source slot's share, the rights and
    duties of the remaining distances, and the credit for the sends made. -/
def SB (k n : ℕ) (O : CellTallies nD τ sig Unit) (c : Dev nD) : sProp 𝕄 :=
  iprop((∃ W, owes (c : Thread nD τ) (O + OR k n c) W)
    ∗ slotPts c k 0 (rem n) (CA m ρ c)
    ∗ (bigSep (Finset.Ioc n 15) fun d => iprop((∃ f : CBuf F, slotPts (pl c d) k d fullShare f)
        ∗ dutyTok ER (oCell c 0 d) k 0 ∗ reached ER (oCell c 0 d) k ∗ dutyTok ER (oCell (pl c d) (1 + k) d) 0 0))
    ∗ bigSep (Finset.Ioc 0 n) fun d => cred (tallyAt (oCell c 0 d) () N))

theorem send_step (c p : Dev nD) (k n : ℕ) (hk : k < 2) (hn : n < 15) (hp : p = pl c (n + 1)) (O : CellTallies nD τ sig Unit)
    {sS sR : DmaSem sig} (hsS : sS = oS 0 (n + 1)) (hsR : sR = oS (1 + k) (n + 1))
    {hsc : (slot k (n + 1) hk (by omega) : Memref sig (Dev.tc p : Thread nD τ).2.kind .vmem S4x2048 .f32).view.ref.isScScratch = false}
    {hsrc : (slot k 0 hk (by decide)).view.WordExact} {hdst : (slot k (n + 1) hk (by omega)).view.WordExact}
    {hsem : DmaTarget.Typed .vmem (.dma sR) (.remote (Dev.tc p : Thread nD τ) (slot k (n + 1) hk (by omega)) (.dma sS) hsc)}
    {α : Type} {Q : α → sProp 𝕄} {kt : PUnit → Prog (TpuEff nD τ sig (Elt F) Λ₀ .tc) α} :
    iprop(records m ρ ∗ SB m ρ k n O c)
      ⊢ iprop((SB m ρ k (n + 1) O c -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slot k 0 hk (by decide)) (.remote (Dev.tc p : Thread nD τ) (slot k (n + 1) hk (by omega)) (.dma sS) hsc) (.dma sR) hsrc hdst hsem) kt) Q) := by
  subst hp; subst hsS; subst hsR
  have hd : 1 ≤ n + 1 := by omega
  have hd' : n + 1 ≤ 15 := by omega
  have h16 : n + 1 < 16 := by omega
  unfold SB
  rw [Ioc_head n hn, big_insert (not_mem_head n), Ioc_last n, big_insert (not_mem_last n), OR_step k n hn c, ← add_assoc]
  iintro ⟨#HR, ⟨%W, HO⟩, Hsrc, ⟨⟨⟨%fd, Hdst⟩, HtS, HrS, HtR⟩, Hrest⟩, Hcr⟩ Hk
  ihave HI := (inv_o m ρ c 0 (n + 1) (by decide) hd hd') $$ HR
  icases HI with ⟨%κ₁, #HI₁⟩
  ihave HI := (inv_o m ρ (pl c (n + 1)) (1 + k) (n + 1) (by omega) hd hd') $$ HR
  icases HI with ⟨%κ₂, #HI₂⟩
  ihave Hl := (slotPts_lend c k 0 n (CA m ρ c)).1 $$ Hsrc
  icases Hl with ⟨Hsrc, Hpc⟩
  iapply (Rounds.wp_send_pointsTo 𝒱₀ ER (Rd m ρ) (c : Thread nD τ) none (κ₁ := κ₁) (κ₂ := κ₂)
      (r₁ := k) (r₂ := 0) (d₁ := 0) (d₂ := 0) (fs := CA m ρ c) (fd := fd) (q := piece (n + 1))
      (by rw [duties_send m ρ c k (n + 1) hk hd hd']; exact Finset.mem_singleton_self _)
      (by rw [duties_recv m ρ (pl c (n + 1)) k (n + 1) hk hd hd']; exact Finset.mem_singleton_self _)
      () () N (N_eq k (n + 1) hk h16 _ _) (amount_o m ρ c 0 (n + 1) k 0) (amount_o m ρ (pl c (n + 1)) (1 + k) (n + 1) 0 0)
      (O + OR k (n + 1) c) rfl (W := W)
      (by rw [payload_send m ρ c k (n + 1) 0 hd hd']; exact Entails.of_eq (by unfold slotPts; rw [slot_set]))
      (by rw [payload_recv m ρ (pl c (n + 1)) k (n + 1) 0 hk hd hd']; unfold slotPts; rw [slot_set]
          exact Entails.of_eq (pointsTo_congr (landing m ρ c k (n + 1) hk h16 fd))))
    $$ [Hpc Hdst HO HtS HrS HtR]
  · isplitr; · iexact HI₁
    isplitr; · iexact HI₂
    isplitl [Hpc]; · rw [slot_set]; unfold slotPts; iexact Hpc
    isplitl [Hdst]; · rw [slot_set]; unfold slotPts; iexact Hdst
    isplitl [HO]; · iexact HO
    isplitl [HtS]; · iexact HtS
    isplitl [HrS]; · iexact HrS
    isplitl [HtR]; · iexact HtR
    iapply (reached_o m ρ (pl c (n + 1)) (1 + k) (n + 1) (by omega) hd hd'); iexact HR
  iintro ⟨Hcs, HO⟩
  iapply Hk
  isplitl [HO]; · iexists W; iexact HO
  isplitl [Hsrc]; · iexact Hsrc
  isplitl [Hrest]; · iexact Hrest
  isplitl [Hcs]; · iexact Hcs
  iexact Hcr

/-! ## The waits for the sends of one chunk -/

/-- After `n` waits for the sends of chunk `k`. -/
def SC (k n : ℕ) (O : CellTallies nD τ sig Unit) (c : Dev nD) : sProp 𝕄 :=
  iprop((∃ W, owes (c : Thread nD τ) O W)
    ∗ (bigSep (Finset.Ioc n 15) fun d => iprop(cred (tallyAt (oCell c 0 d) () N) ∗ atPos ER (oCell c 0 d) k ∅ 0))
    ∗ bigSep (Finset.Ioc 0 n) fun d => iprop(slotPts c k 0 (piece d) (CA m ρ c) ∗ atPos ER (oCell c 0 d) (k + 1) ∅ 0 ∗ reached ER (oCell c 0 d) (k + 1)))

theorem waitsend_step (c : Dev nD) (k n : ℕ) (hk : k < 2) (hn : n < 15) (O : CellTallies nD τ sig Unit) (hO : O = OR 1 0 c ∨ O = 0)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (oS 0 (n + 1))) N K)
    {α : Type} {Q : α → sProp 𝕄} {kt : PUnit → Prog (TpuEff nD τ sig (Elt F) Λ₀ .tc) α} :
    iprop((levAts L lv : sProp 𝕄) ∗ records m ρ ∗ SC m ρ k n O c)
      ⊢ iprop((SC m ρ k (n + 1) O c -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  have hd : 1 ≤ n + 1 := by omega
  have hd' : n + 1 ≤ 15 := by omega
  unfold SC
  rw [Ioc_head n hn, big_insert (not_mem_head n), Ioc_last n, big_insert (not_mem_last n)]
  iintro ⟨#HL, #HR, ⟨%W, HO⟩, ⟨⟨Hc, Hat⟩, Hrest⟩, Hdone⟩ Hk
  ihave HI := (inv_o m ρ c 0 (n + 1) (by decide) hd hd') $$ HR
  icases HI with ⟨%κ, #HI⟩
  iapply (Rounds.wp_wait_rest_token 𝒱₀ ER (Rd m ρ) (c : Thread nD τ) none (κ := κ) hw (Set.mem_univ _) ()
      (O := O) (W := W) (R := k) (m := 0) (T := ∅) (by rw [Nat.zero_add, expect_send m ρ c k (n + 1) hk hd hd'])) $$ [Hc HO Hat]
  · isplitr; · iexact HI
    isplitl [Hc]; · iexact Hc
    isplitl [HO]; · iexact HO
    isplitr; · iapply (mayWait_send (F := F) c (n + 1) hd hd' O hO); iexact HL
    iexact Hat
  iintro ⟨HO, Hat, Hr, Hpay⟩
  ihave Hp := (Entails.of_eq (rest_send m ρ c k (n + 1) hk hd hd')) $$ Hpay
  iapply Hk
  isplitl [HO]; · iexists _; iexact HO
  isplitl [Hrest]; · iexact Hrest
  isplitl [Hp Hat Hr]
  · isplitl [Hp]; · iexact Hp
    isplitl [Hat]; · iexact Hat
    iexact Hr
  iexact Hdone

/-! ## The waits for the landings of one chunk -/

/-- After `n` waits for the landings of chunk `k`. -/
def SD (k n : ℕ) (c : Dev nD) : sProp 𝕄 :=
  iprop((∃ W, owes (c : Thread nD τ) 0 W)
    ∗ (bigSep (Finset.Ioc n 15) fun d => iprop(cred (tallyAt (oCell c (1 + k) d) () N) ∗ atPos ER (oCell c (1 + k) d) 0 ∅ 0))
    ∗ bigSep (Finset.Ioc 0 n) fun d => iprop(slotPts c k d fullShare (CA m ρ c) ∗ atPos ER (oCell c (1 + k) d) 1 ∅ 0))

theorem waitrecv_step (c : Dev nD) (k n : ℕ) (hk : k < 2) (hn : n < 15)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (oS (1 + k) (n + 1))) N K)
    {α : Type} {Q : α → sProp 𝕄} {kt : PUnit → Prog (TpuEff nD τ sig (Elt F) Λ₀ .tc) α} :
    iprop(records m ρ ∗ SD m ρ k n c)
      ⊢ iprop((SD m ρ k (n + 1) c -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  have hd : 1 ≤ n + 1 := by omega
  have hd' : n + 1 ≤ 15 := by omega
  unfold SD
  rw [Ioc_head n hn, big_insert (not_mem_head n), Ioc_last n, big_insert (not_mem_last n)]
  iintro ⟨#HR, ⟨%W, HO⟩, ⟨⟨Hc, Hat⟩, Hrest⟩, Hdone⟩ Hk
  ihave HI := (inv_o m ρ c (1 + k) (n + 1) (by omega) hd hd') $$ HR
  icases HI with ⟨%κ, #HI⟩
  iapply (Rounds.wp_wait_rest_token 𝒱₀ ER (Rd m ρ) (c : Thread nD τ) none (κ := κ) hw (Set.mem_univ _) ()
      (O := 0) (W := W) (R := 0) (m := 0) (T := ∅) (by rw [Nat.zero_add, expect_recv m ρ c k (n + 1) hk hd hd'])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c k (n + 1) hk hd hd')) $$ Hpay
  iapply Hk
  isplitl [HO]; · iexists _; iexact HO
  isplitl [Hrest]; · iexact Hrest
  isplitl [Hp Hat]
  · isplitl [Hp]; · iexact Hp
    iexact Hat
  iexact Hdone

end Cert.KernelIdeal.Hand
-- ==== Proof.BufKernelIdeal.lean ====
/-
The communication buffer in chunks, slots and boxes; the stores and loads of the statistics and of the result, with contents.
-/
module

public import proofs.«01_k».proof.Proof.StepsKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The communication buffer in slots -/

/-- The elements of chunk `k`. -/
def chunkSet (k : ℕ) : Finset (cc0_scratch0 : Ref sig .tc).ty.shape.Idx :=
  Finset.univ.filter fun i : S2x16x4x2048.Idx => (i 0).val = k

theorem mem_chunkSet {k : ℕ} {i : S2x16x4x2048.Idx} : i ∈ chunkSet k ↔ (i 0).val = k := by
  unfold chunkSet; rw [Finset.mem_filter]; exact ⟨fun h => h.2, fun h => ⟨Finset.mem_univ _, h⟩⟩

theorem chunkSet_eq (k : ℕ) : chunkSet k = (insert 0 (Finset.Ioc 0 15)).biUnion (slotSet k) := by
  ext i
  rw [Finset.mem_biUnion, mem_chunkSet]
  have h1 : ((i : S2x16x4x2048.Idx) 1).val < 16 := ((i : S2x16x4x2048.Idx) 1).isLt
  constructor
  · intro h
    refine ⟨((i : S2x16x4x2048.Idx) 1).val, ?_, mem_slotSet.mpr ⟨h, rfl⟩⟩
    rw [Finset.mem_insert, Finset.mem_Ioc]; omega
  · rintro ⟨j, -, h⟩
    exact (mem_slotSet.mp h).1

/-- Chunk `k` of the communication buffer of device `c`. -/
def chunkPts (c : Dev nD) (k : ℕ) (q : PosShare TreeShare) (f : CBuf F) : sProp 𝕄 :=
  ((c : Thread nD τ).loc cc0_scratch0) ↦[chunkSet k]{q} f

/-- A chunk is its sixteen slots. -/
theorem chunk_slots (c : Dev nD) (k : ℕ) (q : PosShare TreeShare) (f : CBuf F) :
    (chunkPts c k q f : sProp 𝕄) = iprop(slotPts c k 0 q f ∗ bigSep (Finset.Ioc 0 15) fun d => slotPts c k d q f) := by
  unfold chunkPts
  rw [chunkSet_eq]
  rw [pointsTo_biUnion (ℓ := (c : Thread nD τ).loc cc0_scratch0) _ (slotSet k) (fun t _ t' _ htt => Finset.disjoint_left.mpr fun i hi hi' =>
    htt ((mem_slotSet.mp hi).2.symm.trans (mem_slotSet.mp hi').2))]
  exact big_insert (by rw [Finset.mem_Ioc]; omega)

/-- The buffer is its two chunks. -/
theorem buf_chunks (c : Dev nD) (q : PosShare TreeShare) (f : CBuf F) :
    ((((c : Thread nD τ).loc cc0_scratch0) ↦{q} f) : sProp 𝕄) ⊣⊢ iprop(chunkPts c 0 q f ∗ chunkPts c 1 q f) := by
  have hu : (Finset.univ : Finset (cc0_scratch0 : Ref sig .tc).ty.shape.Idx) = chunkSet 0 ∪ chunkSet 1 := by
    ext i
    rw [Finset.mem_union, mem_chunkSet, mem_chunkSet]
    have h0 : ((i : S2x16x4x2048.Idx) 0).val < 2 := ((i : S2x16x4x2048.Idx) 0).isLt
    refine ⟨fun _ => by omega, fun _ => Finset.mem_univ _⟩
  unfold chunkPts
  have hd : Disjoint (chunkSet 0) (chunkSet 1) := Finset.disjoint_left.mpr fun i hi hi' => by
    have := mem_chunkSet.mp hi; have := mem_chunkSet.mp hi'; omega
  have h : ((((c : Thread nD τ).loc cc0_scratch0) ↦[chunkSet 0 ∪ chunkSet 1]{q} f) : sProp 𝕄) ⊣⊢ _ := pointsTo_union hd
  rw [← hu] at h
  exact h

/-- The lent pieces join what is left. -/
theorem rem_refold (c : Dev nD) (k : ℕ) (f : CBuf F) (n : ℕ) :
    iprop(slotPts c k 0 (rem n) f ∗ bigSep (Finset.Ioc 0 n) fun d => slotPts c k 0 (piece d) f) ⊢ (slotPts c k 0 fullShare f : sProp 𝕄) := by
  induction n with
  | zero => iintro ⟨H, -⟩; iexact H
  | succ n ih =>
    rw [Ioc_last n, big_insert (not_mem_last n)]
    iintro ⟨H, Hp, Hr⟩
    iapply ih
    isplitl [H Hp]
    · iapply (slotPts_lend c k 0 n f).2
      isplitl [H]; · iexact H
      iexact Hp
    · iexact Hr

/-- The whole of a slot but a lent part of it. -/
theorem slot_weaken (c : Dev nD) (k j : ℕ) (f : CBuf F) (n : ℕ) :
    (slotPts c k j fullShare f : sProp 𝕄) ⊢ iprop(slotPts c k j (rem n) f ∗ (slotPts c k j (rem n) f -∗ slotPts c k j fullShare f)) := by
  induction n with
  | zero =>
    iintro H
    isplitl [H]; · iexact H
    iintro H; iexact H
  | succ n ih =>
    refine ih.trans ?_
    iintro ⟨H, Hw⟩
    ihave Hs := (slotPts_lend c k j n f).1 $$ H
    icases Hs with ⟨H, Hp⟩
    isplitl [H]; · iexact H
    iintro H
    iapply Hw
    iapply (slotPts_lend c k j n f).2
    isplitl [H]; · iexact H
    iexact Hp

/-! ## The stores of the statistics -/

theorem inbBox (k : Fin 2) (j s : Fin 2) :
    ∀ a, (![k.val, 0, 2 * s.val, 1024 * j.val] : Fin 4 → ℕ) a + S1x1x2x1024.size a ≤ S2x16x4x2048.size a := by
  have hk := k.isLt; have hj := j.isLt; have hs := s.isLt
  intro a
  fin_cases a
  · show k.val + 1 ≤ 2; omega
  · show 0 + 1 ≤ 16; omega
  · show 2 * s.val + 2 ≤ 4; omega
  · show 1024 * j.val + 1024 ≤ 2048; omega

/-- The box of the statistics `s` (0: sums, 1: sums of squares) of half `j` of chunk `k`. -/
abbrev boxR (k j s : Fin 2) : Rect S2x16x4x2048 :=
  Rect.unit (s := S2x16x4x2048) ![k.val, 0, 2 * s.val, 1024 * j.val] S1x1x2x1024.size (inbBox k j s)

theorem mem_boxR {k j s : Fin 2} {i : S2x16x4x2048.Idx} :
    i ∈ (boxR k j s).set ↔ (i 0).val = k.val ∧ (i 1).val = 0 ∧ (i 2).val / 2 = s.val ∧ (i 3).val / 1024 = j.val := by
  rw [Rect.mem_set_unit]
  constructor
  · intro h
    have h0 := h 0; have h1 := h 1; have h2 := h 2; have h3 := h 3
    change k.val ≤ (i 0).val ∧ (i 0).val < k.val + 1 at h0
    change 0 ≤ (i 1).val ∧ (i 1).val < 0 + 1 at h1
    change 2 * s.val ≤ (i 2).val ∧ (i 2).val < 2 * s.val + 2 at h2
    change 1024 * j.val ≤ (i 3).val ∧ (i 3).val < 1024 * j.val + 1024 at h3
    omega
  · rintro ⟨h0, h1, h2, h3⟩ a
    fin_cases a
    · show k.val ≤ (i 0).val ∧ (i 0).val < k.val + 1; omega
    · show 0 ≤ (i 1).val ∧ (i 1).val < 0 + 1; omega
    · show 2 * s.val ≤ (i 2).val ∧ (i 2).val < 2 * s.val + 2; omega
    · show 1024 * j.val ≤ (i 3).val ∧ (i 3).val < 1024 * j.val + 1024; omega

theorem box_sub (k j s : Fin 2) : (boxR k j s).set ⊆ slotSet k.val 0 := fun i hi => by
  have h := mem_boxR.mp hi
  exact mem_slotSet.mpr ⟨h.1, h.2.1⟩

theorem box_setOn (k j s : Fin 2) : (rM.access (boxR k j s)).setOn Finset.univ = (boxR k j s).set :=
  View.set_slice_whole cc0_scratch0 (boxR k j s)

theorem box_load_setOn (k j s : Fin 2) : rM.view.setOn (boxR k j s).toLoadRect.set ⊆ slotSet k.val 0 := by
  intro i hi
  unfold View.setOn at hi
  obtain ⟨x, hx, rfl⟩ := Finset.mem_map.mp hi
  exact box_sub k j s hx

/-- The first `n` boxes of slot `(k, 0)`, in the order of the stores, hold device `c`'s statistics. -/
def slotOk (c : Dev nD) (k : Fin 2) (n : ℕ) (f : CBuf F) : Prop :=
  ∀ i : S2x16x4x2048.Idx, i ∈ slotSet k.val 0 → 2 * ((i 3).val / 1024) + (i 2).val / 2 < n → f i = CA m ρ c i

/-- Slot `(k, 0)` while the statistics are stored. -/
def statPts (c : Dev nD) (k : Fin 2) (n : ℕ) : sProp 𝕄 :=
  iprop(∃ f : CBuf F, ⌜slotOk m ρ c k n f⌝ ∗ slotPts c k.val 0 fullShare f)

/-- The value stored in a box. -/
def boxVal (c : Dev nD) (k j s : Fin 2) : Vec F S1x1x2x1024 .f32 :=
  if s.val = 0 then k0_pay2 (xch (⟨2 * k.val + j.val, by omega⟩ : Fin 4) (xstg m ρ c))
  else k0_pay3 (xch (⟨2 * k.val + j.val, by omega⟩ : Fin 4) (xstg m ρ c))

theorem boxVal_eq (c : Dev nD) (k j s : Fin 2) (y : S1x1x2x1024.Idx) :
    boxVal m ρ c k j s y = CA m ρ c ((boxR k j s).emb y : S2x16x4x2048.Idx) := by
  have hk := k.isLt; have hj := j.isLt; have hs := s.isLt
  have e0 : (((boxR k j s).emb y : S2x16x4x2048.Idx) 0).val = k.val + (y 0).val := ValueKit.rect_emb_unit_val _ _ _ _ 0
  have e1 : (((boxR k j s).emb y : S2x16x4x2048.Idx) 1).val = 0 + (y 1).val := ValueKit.rect_emb_unit_val _ _ _ _ 1
  have e2 : (((boxR k j s).emb y : S2x16x4x2048.Idx) 2).val = 2 * s.val + (y 2).val := ValueKit.rect_emb_unit_val _ _ _ _ 2
  have e3 : (((boxR k j s).emb y : S2x16x4x2048.Idx) 3).val = 1024 * j.val + (y 3).val := ValueKit.rect_emb_unit_val _ _ _ _ 3
  have y0 : (y 0).val = 0 := by have h : (y 0).val < 1 := (y 0).isLt; omega
  have y1 : (y 1).val = 0 := by have h : (y 1).val < 1 := (y 1).isLt; omega
  have y2 : (y 2).val < 2 := (y 2).isLt
  have y3 : (y 3).val < 1024 := (y 3).isLt
  unfold CA
  rw [e1, y1, show pl c (16 - (0 + 0)) = c from Fin.ext (by have hc : c.val < 16 := c.isLt; simp only [pl]; omega)]
  unfold boxVal stat
  have hy : y = boxIdx ⟨(((boxR k j s).emb y : S2x16x4x2048.Idx) 2).val % 2, by omega⟩
      ⟨(((boxR k j s).emb y : S2x16x4x2048.Idx) 3).val % 1024, by omega⟩ := by
    funext a
    fin_cases a
    · exact Fin.ext y0
    · exact Fin.ext y1
    · refine Fin.ext ?_
      show (y 2).val = (((boxR k j s).emb y : S2x16x4x2048.Idx) 2).val % 2
      omega
    · refine Fin.ext ?_
      show (y 3).val = (((boxR k j s).emb y : S2x16x4x2048.Idx) 3).val % 1024
      omega
  have hq : (⟨2 * k.val + j.val, by omega⟩ : Fin 4)
      = ⟨2 * (((boxR k j s).emb y : S2x16x4x2048.Idx) 0).val + (((boxR k j s).emb y : S2x16x4x2048.Idx) 3).val / 1024, by
          have h : (((boxR k j s).emb y : S2x16x4x2048.Idx) 3).val < 2048 := (((boxR k j s).emb y : S2x16x4x2048.Idx) 3).isLt
          omega⟩ := by
    rw [Fin.ext_iff]
    dsimp only
    omega
  dsimp only
  rw [← hq, ← hy]
  by_cases h : s.val = 0
  · rw [if_pos h, if_pos (by omega)]
  · rw [if_neg h, if_neg (by omega)]

theorem slotOk_write (c : Dev nD) (k j s : Fin 2) (f : CBuf F) (h : slotOk m ρ c k (2 * j.val + s.val) f) :
    slotOk m ρ c k (2 * j.val + s.val + 1) ((rM.access (boxR k j s)).write (Elt F) f (boxVal m ρ c k j s) Finset.univ) := by
  intro i hi hn
  by_cases hb : i ∈ (boxR k j s).set
  · obtain ⟨y, rfl⟩ : ∃ x, (boxR k j s).emb x = i := (boxR k j s).exists_idx_of_mem hb
    rw [← boxVal_eq]
    exact View.write_emb_of_mem (v := rM.access (boxR k j s)) f (boxVal m ρ c k j s) (Finset.mem_univ y)
  · rw [View.write_of_not_mem _ _ _ (by rw [box_setOn]; exact hb)]
    refine h i hi ?_
    have hm : ¬ (_ ∧ _ ∧ _ ∧ _) := fun hh => hb (mem_boxR.mpr hh)
    have := mem_slotSet.mp hi
    have hj := j.isLt; have hs := s.isLt
    have i2 : (i 2).val < 4 := (i 2).isLt
    have i3 : (i 3).val < 2048 := (i 3).isLt
    omega

/-- A store of one box of statistics. -/
theorem stat_store (c : Dev nD) (k j s : Fin 2) {w : Vec F S1x1x2x1024 .f32} (hw : w = boxVal m ρ c k j s)
    {hx : (rM.access (boxR k j s)).Stores Finset.univ} {hm : (Finset.univ : Finset (boxR k j s).shape.Idx) = Finset.univ ∨ ∀ a, (boxR k j s).stride a = 1}
    {α : Type} {Q : α → sProp 𝕄} {kt : PUnit → Prog (TpuEff nD τ sig (Elt F) Λ₀ .tc) α} :
    statPts m ρ c k (2 * j.val + s.val)
      ⊢ iprop((statPts m ρ c k (2 * j.val + s.val + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.store rM (boxR k j s) w Finset.univ hx hm) kt) Q) := by
  subst hw
  unfold statPts slotPts
  iintro ⟨%f, %hf, H⟩ Hk
  iapply (wp_store 𝒱₀ (c : Thread nD τ) none Set.univ (m := rM) (r := boxR k j s) (w := boxVal m ρ c k j s) (Mk := Finset.univ)
    (S := slotSet k.val 0) (f := f) (by rw [box_setOn]; exact box_sub k j s)) $$ H
  iintro H
  iapply Hk
  iexists _
  isplitr
  · ipureintro; exact slotOk_write m ρ c k j s f hf
  · iexact H

/-- A load of one box, its value not used. -/
theorem stat_load (c : Dev nD) (k j s : Fin 2) (n : ℕ) {hl : rM.view.LoadsAt (boxR k j s).toLoadRect}
    {α : Type} {Q : α → sProp 𝕄} {kt : ((boxR k j s).toLoadRect.shape.Idx → Elt F .f32) → Prog (TpuEff nD τ sig (Elt F) Λ₀ .tc) α} :
    statPts m ρ c k n
      ⊢ iprop((∀ v, statPts m ρ c k n -∗ wp frame (wpE (defs₀ (F := F)) 𝒱₀ (c : Thread nD τ) none) Set.univ (kt v) Q)
          -∗ wp frame (wpE (defs₀ (F := F)) 𝒱₀ (c : Thread nD τ) none) Set.univ (.op (.load rM (boxR k j s).toLoadRect hl) kt) Q) := by
  unfold statPts slotPts
  iintro ⟨%f, %hf, H⟩ Hk
  iapply (wp_load 𝒱₀ (c : Thread nD τ) none Set.univ (m := rM) (r := (boxR k j s).toLoadRect)
    (S := slotSet k.val 0) (f := f) (box_load_setOn k j s)) $$ H
  iintro H
  iapply Hk
  iexists f
  isplitr
  · ipureintro; exact hf
  · iexact H

/-- Before the stores. -/
theorem stat_start (c : Dev nD) (k : Fin 2) (f : CBuf F) : (slotPts c k.val 0 fullShare f : sProp 𝕄) ⊢ statPts m ρ c k 0 := by
  unfold statPts
  iintro H
  iexists f
  isplitr
  · ipureintro; exact fun i _ h => absurd h (Nat.not_lt_zero _)
  · iexact H

/-- After the stores. -/
theorem stat_done (c : Dev nD) (k : Fin 2) : statPts m ρ c k 4 ⊢ (slotPts c k.val 0 fullShare (CA m ρ c) : sProp 𝕄) := by
  unfold statPts slotPts
  iintro ⟨%f, %hf, H⟩
  have he : ∀ i ∈ slotSet k.val 0, f i = CA m ρ c i := fun i hi => hf i hi (by
    have i2 : ((i : S2x16x4x2048.Idx) 2).val < 4 := ((i : S2x16x4x2048.Idx) 2).isLt
    have i3 : ((i : S2x16x4x2048.Idx) 3).val < 2048 := ((i : S2x16x4x2048.Idx) 3).isLt
    omega)
  iapply (Entails.of_eq (pointsTo_congr he))
  iexact H

/-! ## The load of a whole chunk -/

theorem inbC (k : Fin 2) : ∀ a, (![k.val, 0, 0, 0] : Fin 4 → ℕ) a + S1x16x4x2048.size a ≤ S2x16x4x2048.size a := by
  have hk := k.isLt
  intro a
  fin_cases a
  · show k.val + 1 ≤ 2; omega
  · show 0 + 16 ≤ 16; omega
  · show 0 + 4 ≤ 4; omega
  · show 0 + 2048 ≤ 2048; omega

/-- The box of chunk `k`. -/
abbrev chunkR (k : Fin 2) : Rect S2x16x4x2048 := Rect.unit (s := S2x16x4x2048) ![k.val, 0, 0, 0] S1x16x4x2048.size (inbC k)

/-- What device `c` loads of chunk `k`. -/
def cch (c : Dev nD) (k : Fin 2) : Vec F S1x16x4x2048 .f32 := rM.view.readAt (Elt F) (chunkR k).toLoadRect (CA m ρ c)

theorem chunk_load_setOn (k : Fin 2) : rM.view.setOn (chunkR k).toLoadRect.set ⊆ chunkSet k.val := by
  intro i hi
  unfold View.setOn at hi
  obtain ⟨x, hx, rfl⟩ := Finset.mem_map.mp hi
  have h := (Rect.mem_set_unit.mp hx) 0
  change k.val ≤ (x 0).val ∧ (x 0).val < k.val + 1 at h
  refine mem_chunkSet.mpr ?_
  show (x 0).val = k.val
  omega

/-- The load of a chunk all of whose slots are held at some share. -/
theorem chunk_load (c : Dev nD) (k : Fin 2) (q : PosShare TreeShare) {hl : rM.view.LoadsAt (chunkR k).toLoadRect}
    {α : Type} {Q : α → sProp 𝕄} {kt : ((chunkR k).toLoadRect.shape.Idx → Elt F .f32) → Prog (TpuEff nD τ sig (Elt F) Λ₀ .tc) α} :
    (chunkPts c k.val q (CA m ρ c) : sProp 𝕄)
      ⊢ iprop((chunkPts c k.val q (CA m ρ c) -∗ wp frame (wpE (defs₀ (F := F)) 𝒱₀ (c : Thread nD τ) none) Set.univ (kt (cch m ρ c k)) Q)
          -∗ wp frame (wpE (defs₀ (F := F)) 𝒱₀ (c : Thread nD τ) none) Set.univ (.op (.load rM (chunkR k).toLoadRect hl) kt) Q) :=
  wp_load 𝒱₀ (c : Thread nD τ) none Set.univ (m := rM) (r := (chunkR k).toLoadRect) (S := chunkSet k.val) (f := CA m ρ c) (chunk_load_setOn k)

/-! ## The result -/

/-- The staged operands as the kernel loads them. -/
def tch (c : Dev nD) : Vec F S2x128 .f32 := tM.view.readAt (Elt F) (Rect.unit (s := S2x128) ![0, 0] S2x128.size inb_S2x128_S2x128_0_0).toLoadRect (tstg m ρ c)
/-- The scale weights as loaded. -/
def wch (c : Dev nD) : Vec F S128x512 .f32 := wM.view.readAt (Elt F) (Rect.unit (s := S128x512) ![0, 0] S128x512.size inb_S128x512_S128x512_0_0).toLoadRect (wstg m ρ c)
/-- The shift weights as loaded. -/
def vch (c : Dev nD) : Vec F S128x512 .f32 := vM.view.readAt (Elt F) (Rect.unit (s := S128x512) ![0, 0] S128x512.size inb_S128x512_S128x512_0_0).toLoadRect (vstg m ρ c)

/-- One plus the scale. -/
def sc (c : Dev nD) : FVec F S2x512 .f32 := k0_pay14 (tch m ρ c) (wch m ρ c)
/-- The shift. -/
def sh (c : Dev nD) : FVec F S2x512 .f32 := k0_pay17 (k0_pay15 (tch m ρ c)) (k0_pay16 (vch m ρ c))

/-- The `q`-th 1024 time steps of the result. -/
def och (c : Dev nD) : Fin 4 → Vec F S2x1024x512 .f32
  | ⟨0, _⟩ => k0_pay23 (sc m ρ c) (sh m ρ c) (k0_pay20 (cch m ρ c 0)) (k0_pay21 (xch 0 (xstg m ρ c))) (k0_pay22 (cch m ρ c 0))
  | ⟨1, _⟩ => k0_pay24 (sc m ρ c) (sh m ρ c) (k0_pay19 (cch m ρ c 0)) (k0_pay20 (cch m ρ c 0)) (xch 1 (xstg m ρ c))
  | ⟨2, _⟩ => k0_pay28 (sc m ρ c) (sh m ρ c) (cch m ρ c 1) (xch 2 (xstg m ρ c))
  | ⟨3, _⟩ => k0_pay29 (sc m ρ c) (sh m ρ c) (k0_pay26 (cch m ρ c 1)) (k0_pay27 (cch m ρ c 1)) (xch 3 (xstg m ρ c))

/-- The place of a batch row, a time step and a channel in a piece of 1024 time steps. -/
def chIdx (b : Fin 2) (r : Fin 1024) (d : Fin 512) : S2x1024x512.Idx
  | ⟨0, _⟩ => b
  | ⟨1, _⟩ => r
  | ⟨2, _⟩ => d

/-- The staged result of device `c`. -/
def outAt (c : Dev nD) : (cc0_stg4_0 : Ref sig .tc).ty.Contents (Elt F) := fun i : S2x4096x512.Idx =>
  och m ρ c ⟨(i 1).val / 1024, by have h : (i 1).val < 4096 := (i 1).isLt; omega⟩ (chIdx (i 0) ⟨(i 1).val % 1024, Nat.mod_lt _ (by decide)⟩ (i 2))

theorem mem_xR {q : Fin 4} {i : S2x4096x512.Idx} : i ∈ (xR q).set ↔ (i 1).val / 1024 = q.val := by
  rw [Rect.mem_set_unit]
  constructor
  · intro h
    have h1 := h 1
    change 1024 * q.val ≤ (i 1).val ∧ (i 1).val < 1024 * q.val + 1024 at h1
    omega
  · intro h1 a
    have h0 : (i 0).val < 2 := (i 0).isLt
    have h2 : (i 2).val < 512 := (i 2).isLt
    fin_cases a
    · show 0 ≤ (i 0).val ∧ (i 0).val < 0 + 2; omega
    · show 1024 * q.val ≤ (i 1).val ∧ (i 1).val < 1024 * q.val + 1024; omega
    · show 0 ≤ (i 2).val ∧ (i 2).val < 0 + 512; omega

theorem och_eq (c : Dev nD) (q : Fin 4) (y : S2x1024x512.Idx) : och m ρ c q y = outAt m ρ c ((xR q).emb y : S2x4096x512.Idx) := by
  have hq := q.isLt
  have e0 : (((xR q).emb y : S2x4096x512.Idx) 0).val = 0 + (y 0).val := ValueKit.rect_emb_unit_val _ _ _ _ 0
  have e1 : (((xR q).emb y : S2x4096x512.Idx) 1).val = 1024 * q.val + (y 1).val := ValueKit.rect_emb_unit_val _ _ _ _ 1
  have e2 : (((xR q).emb y : S2x4096x512.Idx) 2).val = 0 + (y 2).val := ValueKit.rect_emb_unit_val _ _ _ _ 2
  have y1 : (y 1).val < 1024 := (y 1).isLt
  unfold outAt
  have hy : chIdx (((xR q).emb y : S2x4096x512.Idx) 0) ⟨(((xR q).emb y : S2x4096x512.Idx) 1).val % 1024, Nat.mod_lt _ (by decide)⟩ (((xR q).emb y : S2x4096x512.Idx) 2) = y := by
    funext a
    fin_cases a
    · refine Fin.ext ?_
      show (((xR q).emb y : S2x4096x512.Idx) 0).val = (y 0).val
      omega
    · refine Fin.ext ?_
      show (((xR q).emb y : S2x4096x512.Idx) 1).val % 1024 = (y 1).val
      omega
    · refine Fin.ext ?_
      show (((xR q).emb y : S2x4096x512.Idx) 2).val = (y 2).val
      omega
  rw [hy]
  have hqq : q = ⟨(((xR q).emb y : S2x4096x512.Idx) 1).val / 1024, by rw [e1]; omega⟩ := by
    rw [Fin.ext_iff]
    dsimp only
    omega
  rw [← hqq]

/-- The staged result while it is stored: the first `n` pieces are in place. -/
def outPts (c : Dev nD) (n : ℕ) : sProp 𝕄 :=
  iprop(∃ f : (cc0_stg4_0 : Ref sig .tc).ty.Contents (Elt F), ⌜∀ i : S2x4096x512.Idx, (i 1).val / 1024 < n → f i = outAt m ρ c i⌝
    ∗ (((c : Thread nD τ).loc cc0_stg4_0) ↦{fullShare} f))

/-- A store of one piece of the result. -/
theorem out_store (c : Dev nD) (q : Fin 4) (n : ℕ) (hn : q.val = n) {w : Vec F S2x1024x512 .f32} (hw : w = och m ρ c q)
    {hx : (oM.access (xR q)).Stores Finset.univ} {hm : (Finset.univ : Finset (xR q).shape.Idx) = Finset.univ ∨ ∀ a, (xR q).stride a = 1}
    {α : Type} {Q : α → sProp 𝕄} {kt : PUnit → Prog (TpuEff nD τ sig (Elt F) Λ₀ .tc) α} :
    outPts m ρ c n
      ⊢ iprop((outPts m ρ c (n + 1) -∗ wp frame (wpE (defs₀ (F := F)) 𝒱₀ (c : Thread nD τ) none) Set.univ (kt ⟨⟩) Q)
          -∗ wp frame (wpE (defs₀ (F := F)) 𝒱₀ (c : Thread nD τ) none) Set.univ (.op (.store oM (xR q) w Finset.univ hx hm) kt) Q) := by
  subst hw; subst hn
  unfold outPts
  iintro ⟨%f, %hf, H⟩ Hk
  iapply (wp_store 𝒱₀ (c : Thread nD τ) none Set.univ (m := oM) (r := xR q) (w := och m ρ c q) (Mk := Finset.univ)
    (S := Finset.univ) (f := f) (Finset.subset_univ _)) $$ H
  iintro H
  iapply Hk
  iexists _
  isplitr
  swap
  · iexact H
  · ipureintro
    intro i hn
    by_cases hb : i ∈ (xR q).set
    · obtain ⟨y, rfl⟩ : ∃ x, (xR q).emb x = i := (xR q).exists_idx_of_mem hb
      rw [← och_eq]
      exact View.write_emb_of_mem (v := oM.access (xR q)) f (och m ρ c q) (Finset.mem_univ y)
    · rw [View.write_of_not_mem _ _ _ (by rw [show (oM.access (xR q)).setOn Finset.univ = (xR q).set from View.set_slice_whole cc0_stg4_0 (xR q)]; exact hb)]
      refine hf i ?_
      have h : ¬ _ := fun hh => hb (mem_xR.mpr hh)
      omega

/-- A load of one piece of the result, its value not used. -/
theorem out_load (c : Dev nD) (q : Fin 4) (n : ℕ) {hl : oM.view.LoadsAt (xR q).toLoadRect}
    {α : Type} {Q : α → sProp 𝕄} {kt : ((xR q).toLoadRect.shape.Idx → Elt F .f32) → Prog (TpuEff nD τ sig (Elt F) Λ₀ .tc) α} :
    outPts m ρ c n
      ⊢ iprop((∀ v, outPts m ρ c n -∗ wp frame (wpE (defs₀ (F := F)) 𝒱₀ (c : Thread nD τ) none) Set.univ (kt v) Q)
          -∗ wp frame (wpE (defs₀ (F := F)) 𝒱₀ (c : Thread nD τ) none) Set.univ (.op (.load oM (xR q).toLoadRect hl) kt) Q) := by
  unfold outPts
  iintro ⟨%f, %hf, H⟩ Hk
  iapply (wp_load 𝒱₀ (c : Thread nD τ) none Set.univ (m := oM) (r := (xR q).toLoadRect) (S := Finset.univ) (f := f) (Finset.subset_univ _)) $$ H
  iintro H
  iapply Hk
  iexists f
  isplitr
  · ipureintro; exact hf
  · iexact H

/-- After the stores of the result. -/
theorem out_done (c : Dev nD) : outPts m ρ c 4 ⊢ ((((c : Thread nD τ).loc cc0_stg4_0) ↦{fullShare} outAt m ρ c) : sProp 𝕄) := by
  unfold outPts
  iintro ⟨%f, %hf, H⟩
  have he : f = outAt m ρ c := funext fun i => hf i (by
    have h : ((i : S2x4096x512.Idx) 1).val < 4096 := ((i : S2x4096x512.Idx) 1).isLt
    omega)
  rw [← he]
  iexact H

/-- The load of one piece of `x`. -/
theorem x_load (c : Dev nD) (q : Fin 4) {hl : xM.view.LoadsAt (xR q).toLoadRect}
    {α : Type} {Q : α → sProp 𝕄} {kt : ((xR q).toLoadRect.shape.Idx → Elt F .f32) → Prog (TpuEff nD τ sig (Elt F) Λ₀ .tc) α} :
    ((((c : Thread nD τ).loc cc0_stg0_0) ↦{fullShare} xstg m ρ c) : sProp 𝕄)
      ⊢ iprop(((((c : Thread nD τ).loc cc0_stg0_0) ↦{fullShare} xstg m ρ c) -∗ wp frame (wpE (defs₀ (F := F)) 𝒱₀ (c : Thread nD τ) none) Set.univ (kt (xch q (xstg m ρ c))) Q)
          -∗ wp frame (wpE (defs₀ (F := F)) 𝒱₀ (c : Thread nD τ) none) Set.univ (.op (.load xM (xR q).toLoadRect hl) kt) Q) :=
  wp_load 𝒱₀ (c : Thread nD τ) none Set.univ (m := xM) (r := (xR q).toLoadRect) (S := Finset.univ) (f := xstg m ρ c) (Finset.subset_univ _)

end Cert.KernelIdeal.Hand
-- ==== Proof.PartsKernelIdeal.lean ====
/-
The parts of the body, each from the state before it to the state after it.
-/
module

public import proofs.«01_k».proof.Proof.BufKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel computes -/

theorem dev1_eq : ∀ c : Dev nD, (⟨k0_dev1 c, k0_dev1_lt c⟩ : Dev nD) = pl c 1 := by decide +kernel
theorem dev2_eq : ∀ c : Dev nD, (⟨k0_dev2 c, k0_dev2_lt c⟩ : Dev nD) = pl c 2 := by decide +kernel
theorem dev3_eq : ∀ c : Dev nD, (⟨k0_dev3 c, k0_dev3_lt c⟩ : Dev nD) = pl c 3 := by decide +kernel
theorem dev4_eq : ∀ c : Dev nD, (⟨k0_dev4 c, k0_dev4_lt c⟩ : Dev nD) = pl c 4 := by decide +kernel
theorem dev5_eq : ∀ c : Dev nD, (⟨k0_dev5 c, k0_dev5_lt c⟩ : Dev nD) = pl c 5 := by decide +kernel
theorem dev6_eq : ∀ c : Dev nD, (⟨k0_dev6 c, k0_dev6_lt c⟩ : Dev nD) = pl c 6 := by decide +kernel
theorem dev7_eq : ∀ c : Dev nD, (⟨k0_dev7 c, k0_dev7_lt c⟩ : Dev nD) = pl c 7 := by decide +kernel
theorem dev8_eq : ∀ c : Dev nD, (⟨k0_dev8 c, k0_dev8_lt c⟩ : Dev nD) = pl c 8 := by decide +kernel
theorem dev9_eq : ∀ c : Dev nD, (⟨k0_dev9 c, k0_dev9_lt c⟩ : Dev nD) = pl c 9 := by decide +kernel
theorem dev10_eq : ∀ c : Dev nD, (⟨k0_dev10 c, k0_dev10_lt c⟩ : Dev nD) = pl c 10 := by decide +kernel
theorem dev11_eq : ∀ c : Dev nD, (⟨k0_dev11 c, k0_dev11_lt c⟩ : Dev nD) = pl c 11 := by decide +kernel
theorem dev12_eq : ∀ c : Dev nD, (⟨k0_dev12 c, k0_dev12_lt c⟩ : Dev nD) = pl c 12 := by decide +kernel
theorem dev13_eq : ∀ c : Dev nD, (⟨k0_dev13 c, k0_dev13_lt c⟩ : Dev nD) = pl c 13 := by decide +kernel
theorem dev14_eq : ∀ c : Dev nD, (⟨k0_dev14 c, k0_dev14_lt c⟩ : Dev nD) = pl c 14 := by decide +kernel
theorem dev15_eq : ∀ c : Dev nD, (⟨k0_dev15 c, k0_dev15_lt c⟩ : Dev nD) = pl c 15 := by decide +kernel
theorem dev16_eq : ∀ c : Dev nD, (⟨k0_dev16 c, k0_dev16_lt c⟩ : Dev nD) = pl c 1 := by decide +kernel
theorem dev17_eq : ∀ c : Dev nD, (⟨k0_dev17 c, k0_dev17_lt c⟩ : Dev nD) = pl c 2 := by decide +kernel
theorem dev18_eq : ∀ c : Dev nD, (⟨k0_dev18 c, k0_dev18_lt c⟩ : Dev nD) = pl c 3 := by decide +kernel
theorem dev19_eq : ∀ c : Dev nD, (⟨k0_dev19 c, k0_dev19_lt c⟩ : Dev nD) = pl c 4 := by decide +kernel
theorem dev20_eq : ∀ c : Dev nD, (⟨k0_dev20 c, k0_dev20_lt c⟩ : Dev nD) = pl c 5 := by decide +kernel
theorem dev21_eq : ∀ c : Dev nD, (⟨k0_dev21 c, k0_dev21_lt c⟩ : Dev nD) = pl c 6 := by decide +kernel
theorem dev22_eq : ∀ c : Dev nD, (⟨k0_dev22 c, k0_dev22_lt c⟩ : Dev nD) = pl c 7 := by decide +kernel
theorem dev23_eq : ∀ c : Dev nD, (⟨k0_dev23 c, k0_dev23_lt c⟩ : Dev nD) = pl c 8 := by decide +kernel
theorem dev24_eq : ∀ c : Dev nD, (⟨k0_dev24 c, k0_dev24_lt c⟩ : Dev nD) = pl c 9 := by decide +kernel
theorem dev25_eq : ∀ c : Dev nD, (⟨k0_dev25 c, k0_dev25_lt c⟩ : Dev nD) = pl c 10 := by decide +kernel
theorem dev26_eq : ∀ c : Dev nD, (⟨k0_dev26 c, k0_dev26_lt c⟩ : Dev nD) = pl c 11 := by decide +kernel
theorem dev27_eq : ∀ c : Dev nD, (⟨k0_dev27 c, k0_dev27_lt c⟩ : Dev nD) = pl c 12 := by decide +kernel
theorem dev28_eq : ∀ c : Dev nD, (⟨k0_dev28 c, k0_dev28_lt c⟩ : Dev nD) = pl c 13 := by decide +kernel
theorem dev29_eq : ∀ c : Dev nD, (⟨k0_dev29 c, k0_dev29_lt c⟩ : Dev nD) = pl c 14 := by decide +kernel
theorem dev30_eq : ∀ c : Dev nD, (⟨k0_dev30 c, k0_dev30_lt c⟩ : Dev nD) = pl c 15 := by decide +kernel
theorem dev31_eq : ∀ c : Dev nD, (⟨k0_dev31 c, k0_dev31_lt c⟩ : Dev nD) = pl c 1 := by decide +kernel
theorem dev32_eq : ∀ c : Dev nD, (⟨k0_dev32 c, k0_dev32_lt c⟩ : Dev nD) = pl c 2 := by decide +kernel
theorem dev33_eq : ∀ c : Dev nD, (⟨k0_dev33 c, k0_dev33_lt c⟩ : Dev nD) = pl c 3 := by decide +kernel
theorem dev34_eq : ∀ c : Dev nD, (⟨k0_dev34 c, k0_dev34_lt c⟩ : Dev nD) = pl c 4 := by decide +kernel
theorem dev35_eq : ∀ c : Dev nD, (⟨k0_dev35 c, k0_dev35_lt c⟩ : Dev nD) = pl c 5 := by decide +kernel
theorem dev36_eq : ∀ c : Dev nD, (⟨k0_dev36 c, k0_dev36_lt c⟩ : Dev nD) = pl c 6 := by decide +kernel
theorem dev37_eq : ∀ c : Dev nD, (⟨k0_dev37 c, k0_dev37_lt c⟩ : Dev nD) = pl c 7 := by decide +kernel
theorem dev38_eq : ∀ c : Dev nD, (⟨k0_dev38 c, k0_dev38_lt c⟩ : Dev nD) = pl c 8 := by decide +kernel
theorem dev39_eq : ∀ c : Dev nD, (⟨k0_dev39 c, k0_dev39_lt c⟩ : Dev nD) = pl c 9 := by decide +kernel
theorem dev40_eq : ∀ c : Dev nD, (⟨k0_dev40 c, k0_dev40_lt c⟩ : Dev nD) = pl c 10 := by decide +kernel
theorem dev41_eq : ∀ c : Dev nD, (⟨k0_dev41 c, k0_dev41_lt c⟩ : Dev nD) = pl c 11 := by decide +kernel
theorem dev42_eq : ∀ c : Dev nD, (⟨k0_dev42 c, k0_dev42_lt c⟩ : Dev nD) = pl c 12 := by decide +kernel
theorem dev43_eq : ∀ c : Dev nD, (⟨k0_dev43 c, k0_dev43_lt c⟩ : Dev nD) = pl c 13 := by decide +kernel
theorem dev44_eq : ∀ c : Dev nD, (⟨k0_dev44 c, k0_dev44_lt c⟩ : Dev nD) = pl c 14 := by decide +kernel
theorem dev45_eq : ∀ c : Dev nD, (⟨k0_dev45 c, k0_dev45_lt c⟩ : Dev nD) = pl c 15 := by decide +kernel

/-- All signals made: no barrier unit is owed. -/
theorem SA_end (c : Dev nD) {O : CellTallies nD τ sig Unit} : SA (F := F) 15 O c ⊢ iprop(∃ W, owes (c : Thread nD τ) O W) := by
  unfold SA
  rw [OB_end, add_zero]
  iintro ⟨H, -⟩
  iexact H

/-- The wait for a send as the body spells it. -/
theorem waitsend_op (c : Dev nD) (k n : ℕ) (hk : k < 2) (hn : n < 15) (O : CellTallies nD τ sig Unit) (hO : O = OR 1 0 c ∨ O = 0)
    {sS : DmaSem sig} (hs : sS = oS 0 (n + 1)) {M : Memref sig .tc .vmem S4x2048 .f32} {h₁ : M.view.WordExact} {h₂ : (slot k 0 hk (by decide)).view.WordExact}
    {α : Type} {Q : α → sProp 𝕄} {kt : PUnit → Prog (TpuEff nD τ sig (Elt F) Λ₀ .tc) α} :
    iprop((levAts L lv : sProp 𝕄) ∗ records m ρ ∗ SC m ρ k n O c)
      ⊢ iprop((SC m ρ k (n + 1) O c -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sS M (slot k 0 hk (by decide)) h₁ h₂) kt) Q) := by
  subst hs
  exact waitsend_step m ρ c k n hk hn O hO (wpE_waitDma2_eq 𝒱₀ (c : Thread nD τ) none Set.univ (src := M) (dst := slot k 0 hk (by decide)) (hsrc := h₁) (hdst := h₂))

/-- The wait for a landing as the body spells it. -/
theorem waitrecv_op (c : Dev nD) (k n : ℕ) (hk : k < 2) (hn : n < 15)
    {sR : DmaSem sig} (hs : sR = oS (1 + k) (n + 1)) {M : Memref sig .tc .vmem S4x2048 .f32} {h₁ : M.view.WordExact}
    {h₂ : (slot k (n + 1) hk (by omega)).view.WordExact}
    {α : Type} {Q : α → sProp 𝕄} {kt : PUnit → Prog (TpuEff nD τ sig (Elt F) Λ₀ .tc) α} :
    iprop(records m ρ ∗ SD m ρ k n c)
      ⊢ iprop((SD m ρ k (n + 1) c -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sR M (slot k (n + 1) hk (by omega)) h₁ h₂) kt) Q) := by
  subst hs
  exact waitrecv_step m ρ c k n hk hn (wpE_waitDma2_eq 𝒱₀ (c : Thread nD τ) none Set.univ (src := M) (dst := slot k (n + 1) hk (by omega)) (hsrc := h₁) (hdst := h₂))

/-! ## The parts of the body -/

/-- Part 1 of the body. -/
theorem part1_wp (c : Dev nD) :
    iprop((levAts L lv : sProp 𝕄) ∗ records m ρ ∗ SA 0 (OR 1 0 c + OR 0 0 c) c)
      ⊢ wp frame (wpE (defs₀ (F := F)) 𝒱₀ (c : Thread nD τ) none) Set.univ
          (k0_part1 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(⌜∃ a b e f, r = ⟨c, a, (SemArray.scalar (sig.barrier 0 rfl) : Sems sig S_), b, e, f⟩⌝ ∗ SA 2 (OR 1 0 c + OR 0 0 c) c)) := by
  rw [k0_part1_eq_skeleton]; unfold k0_part1_skel
  simp only [semSignalWord, semWaitWord, Prog.lift, Prog.bind_op, Prog.bind_ret, Prog.pure_eq_ret, wp_deviceId]
  iintro ⟨#HL, #HR, HA⟩
  iapply (signal_step m ρ c _ 0 (by decide) (dev1_eq c) (OR 1 0 c + OR 0 0 c)) $$ [HA]
  · isplitr; · iexact HR
    iexact HA
  iintro HA
  iapply (signal_step m ρ c _ 1 (by decide) (dev2_eq c) (OR 1 0 c + OR 0 0 c)) $$ [HA]
  · isplitr; · iexact HR
    iexact HA
  iintro HA
  rw [wp_ret]; imodintro
  isplitr
  · ipureintro; exact ⟨_, _, _, _, rfl⟩
  iexact HA

/-- Part 2 of the body. -/
theorem part2_wp (c : Dev nD) (v2 : BitVec 32) (v30 : BitVec 32) (c16_i32_18 : BitVec 32) (v31 : BitVec 1) :
    iprop((levAts L lv : sProp 𝕄) ∗ records m ρ ∗ SA 2 (OR 1 0 c + OR 0 0 c) c)
      ⊢ wp frame (wpE (defs₀ (F := F)) 𝒱₀ (c : Thread nD τ) none) Set.univ
          (k0_part2 xM (Memref.isWhole_whole _) tM (Memref.isWhole_whole _) wM (Memref.isWhole_whole _) vM (Memref.isWhole_whole _) oM (Memref.isWhole_whole _) rM (Memref.isWhole_whole _) cc0_scratch1 cc0_scratch2 c v2 (SemArray.scalar (sig.barrier 0 rfl) : Sems sig S_) v30 c16_i32_18 v31)
          (fun r => iprop(SA 4 (OR 1 0 c + OR 0 0 c) c)) := by
  rw [k0_part2_eq_skeleton]; unfold k0_part2_skel
  simp only [semSignalWord, semWaitWord, Prog.lift, Prog.bind_op, Prog.bind_ret, Prog.pure_eq_ret, wp_deviceId]
  iintro ⟨#HL, #HR, HA⟩
  iapply (signal_step m ρ c _ 2 (by decide) (dev3_eq c) (OR 1 0 c + OR 0 0 c)) $$ [HA]
  · isplitr; · iexact HR
    iexact HA
  iintro HA
  iapply (signal_step m ρ c _ 3 (by decide) (dev4_eq c) (OR 1 0 c + OR 0 0 c)) $$ [HA]
  · isplitr; · iexact HR
    iexact HA
  iintro HA
  rw [wp_ret]; imodintro
  iexact HA

/-- Part 3 of the body. -/
theorem part3_wp (c : Dev nD) (v2 : BitVec 32) (v59 : BitVec 32) (v64 : BitVec 1) (v65 : BitVec 32) :
    iprop((levAts L lv : sProp 𝕄) ∗ records m ρ ∗ SA 4 (OR 1 0 c + OR 0 0 c) c)
      ⊢ wp frame (wpE (defs₀ (F := F)) 𝒱₀ (c : Thread nD τ) none) Set.univ
          (k0_part3 xM (Memref.isWhole_whole _) tM (Memref.isWhole_whole _) wM (Memref.isWhole_whole _) vM (Memref.isWhole_whole _) oM (Memref.isWhole_whole _) rM (Memref.isWhole_whole _) cc0_scratch1 cc0_scratch2 c v2 (SemArray.scalar (sig.barrier 0 rfl) : Sems sig S_) v59 v64 v65)
          (fun r => iprop(SA 7 (OR 1 0 c + OR 0 0 c) c)) := by
  rw [k0_part3_eq_skeleton]; unfold k0_part3_skel
  simp only [semSignalWord, semWaitWord, Prog.lift, Prog.bind_op, Prog.bind_ret, Prog.pure_eq_ret, wp_deviceId]
  iintro ⟨#HL, #HR, HA⟩
  iapply (signal_step m ρ c _ 4 (by decide) (dev5_eq c) (OR 1 0 c + OR 0 0 c)) $$ [HA]
  · isplitr; · iexact HR
    iexact HA
  iintro HA
  iapply (signal_step m ρ c _ 5 (by decide) (dev6_eq c) (OR 1 0 c + OR 0 0 c)) $$ [HA]
  · isplitr; · iexact HR
    iexact HA
  iintro HA
  iapply (signal_step m ρ c _ 6 (by decide) (dev7_eq c) (OR 1 0 c + OR 0 0 c)) $$ [HA]
  · isplitr; · iexact HR
    iexact HA
  iintro HA
  rw [wp_ret]; imodintro
  iexact HA

/-- Part 4 of the body. -/
theorem part4_wp (c : Dev nD) (v2 : BitVec 32) (v95 : BitVec 32) (c16_i32_63 : BitVec 32) (v96 : BitVec 1) :
    iprop((levAts L lv : sProp 𝕄) ∗ records m ρ ∗ SA 7 (OR 1 0 c + OR 0 0 c) c)
      ⊢ wp frame (wpE (defs₀ (F := F)) 𝒱₀ (c : Thread nD τ) none) Set.univ
          (k0_part4 xM (Memref.isWhole_whole _) tM (Memref.isWhole_whole _) wM (Memref.isWhole_whole _) vM (Memref.isWhole_whole _) oM (Memref.isWhole_whole _) rM (Memref.isWhole_whole _) cc0_scratch1 cc0_scratch2 c v2 (SemArray.scalar (sig.barrier 0 rfl) : Sems sig S_) v95 c16_i32_63 v96)
          (fun r => iprop(SA 9 (OR 1 0 c + OR 0 0 c) c)) := by
  rw [k0_part4_eq_skeleton]; unfold k0_part4_skel
  simp only [semSignalWord, semWaitWord, Prog.lift, Prog.bind_op, Prog.bind_ret, Prog.pure_eq_ret, wp_deviceId]
  iintro ⟨#HL, #HR, HA⟩
  iapply (signal_step m ρ c _ 7 (by decide) (dev8_eq c) (OR 1 0 c + OR 0 0 c)) $$ [HA]
  · isplitr; · iexact HR
    iexact HA
  iintro HA
  iapply (signal_step m ρ c _ 8 (by decide) (dev9_eq c) (OR 1 0 c + OR 0 0 c)) $$ [HA]
  · isplitr; · iexact HR
    iexact HA
  iintro HA
  rw [wp_ret]; imodintro
  iexact HA

/-- Part 5 of the body. -/
theorem part5_wp (c : Dev nD) (v2 : BitVec 32) (v124 : BitVec 32) (v129 : BitVec 1) (v130 : BitVec 32) :
    iprop((levAts L lv : sProp 𝕄) ∗ records m ρ ∗ SA 9 (OR 1 0 c + OR 0 0 c) c)
      ⊢ wp frame (wpE (defs₀ (F := F)) 𝒱₀ (c : Thread nD τ) none) Set.univ
          (k0_part5 xM (Memref.isWhole_whole _) tM (Memref.isWhole_whole _) wM (Memref.isWhole_whole _) vM (Memref.isWhole_whole _) oM (Memref.isWhole_whole _) rM (Memref.isWhole_whole _) cc0_scratch1 cc0_scratch2 c v2 (SemArray.scalar (sig.barrier 0 rfl) : Sems sig S_) v124 v129 v130)
          (fun r => iprop(SA 12 (OR 1 0 c + OR 0 0 c) c)) := by
  rw [k0_part5_eq_skeleton]; unfold k0_part5_skel
  simp only [semSignalWord, semWaitWord, Prog.lift, Prog.bind_op, Prog.bind_ret, Prog.pure_eq_ret, wp_deviceId]
  iintro ⟨#HL, #HR, HA⟩
  iapply (signal_step m ρ c _ 9 (by decide) (dev10_eq c) (OR 1 0 c + OR 0 0 c)) $$ [HA]
  · isplitr; · iexact HR
    iexact HA
  iintro HA
  iapply (signal_step m ρ c _ 10 (by decide) (dev11_eq c) (OR 1 0 c + OR 0 0 c)) $$ [HA]
  · isplitr; · iexact HR
    iexact HA
  iintro HA
  iapply (signal_step m ρ c _ 11 (by decide) (dev12_eq c) (OR 1 0 c + OR 0 0 c)) $$ [HA]
  · isplitr; · iexact HR
    iexact HA
  iintro HA
  rw [wp_ret]; imodintro
  iexact HA

/-- Part 6 of the body. -/
theorem part6_wp (c : Dev nD) (v2 : BitVec 32) (v160 : BitVec 32) (c16_i32_108 : BitVec 32) (v161 : BitVec 1) :
    iprop((levAts L lv : sProp 𝕄) ∗ records m ρ ∗ SA 12 (OR 1 0 c + OR 0 0 c) c)
      ⊢ wp frame (wpE (defs₀ (F := F)) 𝒱₀ (c : Thread nD τ) none) Set.univ
          (k0_part6 xM (Memref.isWhole_whole _) tM (Memref.isWhole_whole _) wM (Memref.isWhole_whole _) vM (Memref.isWhole_whole _) oM (Memref.isWhole_whole _) rM (Memref.isWhole_whole _) cc0_scratch1 cc0_scratch2 c v2 (SemArray.scalar (sig.barrier 0 rfl) : Sems sig S_) v160 c16_i32_108 v161)
          (fun r => iprop(SA 14 (OR 1 0 c + OR 0 0 c) c)) := by
  rw [k0_part6_eq_skeleton]; unfold k0_part6_skel
  simp only [semSignalWord, semWaitWord, Prog.lift, Prog.bind_op, Prog.bind_ret, Prog.pure_eq_ret, wp_deviceId]
  iintro ⟨#HL, #HR, HA⟩
  iapply (signal_step m ρ c _ 12 (by decide) (dev13_eq c) (OR 1 0 c + OR 0 0 c)) $$ [HA]
  · isplitr; · iexact HR
    iexact HA
  iintro HA
  iapply (signal_step m ρ c _ 13 (by decide) (dev14_eq c) (OR 1 0 c + OR 0 0 c)) $$ [HA]
  · isplitr; · iexact HR
    iexact HA
  iintro HA
  rw [wp_ret]; imodintro
  iexact HA

/-- Part 7 of the body. -/
theorem part7_wp (c : Dev nD) (v189 : BitVec 32) (v194 : BitVec 1) (v195 : BitVec 32) :
    iprop((levAts L lv : sProp 𝕄) ∗ records m ρ ∗ SA 14 (OR 1 0 c + OR 0 0 c) c ∗ cred (tallyAt (barCell c) () 15) ∗ atPos ER (barCell c) 0 ∅ 0 ∗ (((c : Thread nD τ).loc cc0_stg0_0) ↦{fullShare} xstg m ρ c) ∗ statPts m ρ c 0 0)
      ⊢ wp frame (wpE (defs₀ (F := F)) 𝒱₀ (c : Thread nD τ) none) Set.univ
          (k0_part7 xM (Memref.isWhole_whole _) tM (Memref.isWhole_whole _) wM (Memref.isWhole_whole _) vM (Memref.isWhole_whole _) oM (Memref.isWhole_whole _) rM (Memref.isWhole_whole _) cc0_scratch1 cc0_scratch2 c (SemArray.scalar (sig.barrier 0 rfl) : Sems sig S_) v189 v194 v195)
          (fun r => iprop(⌜r = (k0_pay6 (xch 1 (xstg m ρ c)))⌝ ∗ (∃ W, owes (c : Thread nD τ) (OR 1 0 c + OR 0 0 c) W) ∗ atPos ER (barCell c) 1 ∅ 0 ∗ (bigSep (Finset.Ioc 0 15) fun e => barPay c e) ∗ (((c : Thread nD τ).loc cc0_stg0_0) ↦{fullShare} xstg m ρ c) ∗ statPts m ρ c 0 3)) := by
  rw [k0_part7_eq_skeleton]; unfold k0_part7_skel
  simp only [semSignalWord, semWaitWord, Prog.lift, Prog.bind_op, Prog.bind_ret, Prog.pure_eq_ret, wp_deviceId]
  iintro ⟨#HL, #HR, HA, Hcb, Hat, HX, Hst⟩
  iapply (signal_step m ρ c _ 14 (by decide) (dev15_eq c) (OR 1 0 c + OR 0 0 c)) $$ [HA]
  · isplitr; · iexact HR
    iexact HA
  iintro HA
  ihave HO := (SA_end c) $$ HA
  iapply (bar_wait m ρ c (wpE_semWait_eq 𝒱₀ (c : Thread nD τ) none Set.univ)) $$ [HO Hcb Hat]
  · isplitr; · iexact HL
    isplitr; · iexact HR
    isplitl [HO]; · iexact HO
    isplitl [Hcb]; · iexact Hcb
    iexact Hat
  iintro ⟨HO, Hat, Hpay⟩
  iapply (x_load m ρ c 0) $$ HX
  iintro HX
  iapply (stat_load m ρ c 0 0 0 0) $$ Hst
  iintro %_ Hst
  iapply (stat_store m ρ c 0 0 0 rfl) $$ Hst
  iintro Hst
  iapply (stat_load m ρ c 0 0 1 1) $$ Hst
  iintro %_ Hst
  iapply (stat_store m ρ c 0 0 1 rfl) $$ Hst
  iintro Hst
  iapply (x_load m ρ c 1) $$ HX
  iintro HX
  iapply (stat_load m ρ c 0 1 0 2) $$ Hst
  iintro %_ Hst
  iapply (stat_store m ρ c 0 1 0 rfl) $$ Hst
  iintro Hst
  iapply (stat_load m ρ c 0 1 1 3) $$ Hst
  iintro %_ Hst
  rw [wp_ret]; imodintro
  isplitr
  · ipureintro; exact rfl
  isplitl [HO]; · iexact HO
  isplitl [Hat]; · iexact Hat
  isplitl [Hpay]; · iexact Hpay
  isplitl [HX]; · iexact HX
  iexact Hst

/-- Part 8 of the body. -/
theorem part8_wp (c : Dev nD) (v2 : BitVec 32) :
    iprop((levAts L lv : sProp 𝕄) ∗ records m ρ ∗ statPts m ρ c 0 3 ∗ (slotPts c 0 0 fullShare (CA m ρ c) -∗ SB m ρ 0 0 (OR 1 0 c) c))
      ⊢ wp frame (wpE (defs₀ (F := F)) 𝒱₀ (c : Thread nD τ) none) Set.univ
          (k0_part8 xM (Memref.isWhole_whole _) tM (Memref.isWhole_whole _) wM (Memref.isWhole_whole _) vM (Memref.isWhole_whole _) oM (Memref.isWhole_whole _) rM (Memref.isWhole_whole _) cc0_scratch1 cc0_scratch2 c v2 (k0_pay6 (xch 1 (xstg m ρ c))))
          (fun r => iprop(SB m ρ 0 1 (OR 1 0 c) c)) := by
  rw [k0_part8_eq_skeleton]; unfold k0_part8_skel
  simp only [semSignalWord, semWaitWord, Prog.lift, Prog.bind_op, Prog.bind_ret, Prog.pure_eq_ret, wp_deviceId]
  iintro ⟨#HL, #HR, Hst, Hc⟩
  iapply (stat_store m ρ c 0 1 1 rfl) $$ Hst
  iintro Hst
  ihave HB := Hc $$ [Hst]
  · iapply (stat_done m ρ c 0); iexact Hst
  iapply (send_step m ρ c _ 0 0 (by decide) (by decide) (dev16_eq c) (OR 1 0 c) (sS := oS 0 1) (sR := oS 1 1) rfl rfl) $$ [HB]
  · isplitr; · iexact HR
    iexact HB
  iintro HB
  rw [wp_ret]; imodintro
  iexact HB

/-- Part 9 of the body. -/
theorem part9_wp (c : Dev nD) (v2 : BitVec 32) (v244 : BitVec 32) (v245 : BitVec 32) (v250 : BitVec 1) :
    iprop((levAts L lv : sProp 𝕄) ∗ records m ρ ∗ SB m ρ 0 1 (OR 1 0 c) c)
      ⊢ wp frame (wpE (defs₀ (F := F)) 𝒱₀ (c : Thread nD τ) none) Set.univ
          (k0_part9 xM (Memref.isWhole_whole _) tM (Memref.isWhole_whole _) wM (Memref.isWhole_whole _) vM (Memref.isWhole_whole _) oM (Memref.isWhole_whole _) rM (Memref.isWhole_whole _) cc0_scratch1 cc0_scratch2 c v2 v244 v245 v250)
          (fun r => iprop(SB m ρ 0 2 (OR 1 0 c) c)) := by
  rw [k0_part9_eq_skeleton]; unfold k0_part9_skel
  simp only [semSignalWord, semWaitWord, Prog.lift, Prog.bind_op, Prog.bind_ret, Prog.pure_eq_ret, wp_deviceId]
  iintro ⟨#HL, #HR, HB⟩
  iapply (send_step m ρ c _ 0 1 (by decide) (by decide) (dev17_eq c) (OR 1 0 c) (sS := oS 0 2) (sR := oS 1 2) rfl rfl) $$ [HB]
  · isplitr; · iexact HR
    iexact HB
  iintro HB
  rw [wp_ret]; imodintro
  iexact HB

/-- Part 10 of the body. -/
theorem part10_wp (c : Dev nD) (v2 : BitVec 32) :
    iprop((levAts L lv : sProp 𝕄) ∗ records m ρ ∗ SB m ρ 0 2 (OR 1 0 c) c)
      ⊢ wp frame (wpE (defs₀ (F := F)) 𝒱₀ (c : Thread nD τ) none) Set.univ
          (k0_part10 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(SB m ρ 0 4 (OR 1 0 c) c)) := by
  rw [k0_part10_eq_skeleton]; unfold k0_part10_skel
  simp only [semSignalWord, semWaitWord, Prog.lift, Prog.bind_op, Prog.bind_ret, Prog.pure_eq_ret, wp_deviceId]
  iintro ⟨#HL, #HR, HB⟩
  iapply (send_step m ρ c _ 0 2 (by decide) (by decide) (dev18_eq c) (OR 1 0 c) (sS := oS 0 3) (sR := oS 1 3) rfl rfl) $$ [HB]
  · isplitr; · iexact HR
    iexact HB
  iintro HB
  iapply (send_step m ρ c _ 0 3 (by decide) (by decide) (dev19_eq c) (OR 1 0 c) (sS := oS 0 4) (sR := oS 1 4) rfl rfl) $$ [HB]
  · isplitr; · iexact HR
    iexact HB
  iintro HB
  rw [wp_ret]; imodintro
  iexact HB

/-- Part 11 of the body. -/
theorem part11_wp (c : Dev nD) (v2 : BitVec 32) (v307 : BitVec 32) (v308 : BitVec 32) (v309 : BitVec 1) :
    iprop((levAts L lv : sProp 𝕄) ∗ records m ρ ∗ SB m ρ 0 4 (OR 1 0 c) c)
      ⊢ wp frame (wpE (defs₀ (F := F)) 𝒱₀ (c : Thread nD τ) none) Set.univ
          (k0_part11 xM (Memref.isWhole_whole _) tM (Memref.isWhole_whole _) wM (Memref.isWhole_whole _) vM (Memref.isWhole_whole _) oM (Memref.isWhole_whole _) rM (Memref.isWhole_whole _) cc0_scratch1 cc0_scratch2 c v2 v307 v308 v309)
          (fun r => iprop(SB m ρ 0 5 (OR 1 0 c) c)) := by
  rw [k0_part11_eq_skeleton]; unfold k0_part11_skel
  simp only [semSignalWord, semWaitWord, Prog.lift, Prog.bind_op, Prog.bind_ret, Prog.pure_eq_ret, wp_deviceId]
  iintro ⟨#HL, #HR, HB⟩
  iapply (send_step m ρ c _ 0 4 (by decide) (by decide) (dev20_eq c) (OR 1 0 c) (sS := oS 0 5) (sR := oS 1 5) rfl rfl) $$ [HB]
  · isplitr; · iexact HR
    iexact HB
  iintro HB
  rw [wp_ret]; imodintro
  iexact HB

/-- Part 12 of the body. -/
theorem part12_wp (c : Dev nD) (v2 : BitVec 32) (v337 : BitVec 32) (c0_i32_273 : BitVec 32) :
    iprop((levAts L lv : sProp 𝕄) ∗ records m ρ ∗ SB m ρ 0 5 (OR 1 0 c) c)
      ⊢ wp frame (wpE (defs₀ (F := F)) 𝒱₀ (c : Thread nD τ) none) Set.univ
          (k0_part12 xM (Memref.isWhole_whole _) tM (Memref.isWhole_whole _) wM (Memref.isWhole_whole _) vM (Memref.isWhole_whole _) oM (Memref.isWhole_whole _) rM (Memref.isWhole_whole _) cc0_scratch1 cc0_scratch2 c v2 v337 c0_i32_273)
          (fun r => iprop(SB m ρ 0 7 (OR 1 0 c) c)) := by
  rw [k0_part12_eq_skeleton]; unfold k0_part12_skel
  simp only [semSignalWord, semWaitWord, Prog.lift, Prog.bind_op, Prog.bind_ret, Prog.pure_eq_ret, wp_deviceId]
  iintro ⟨#HL, #HR, HB⟩
  iapply (send_step m ρ c _ 0 5 (by decide) (by decide) (dev21_eq c) (OR 1 0 c) (sS := oS 0 6) (sR := oS 1 6) rfl rfl) $$ [HB]
  · isplitr; · iexact HR
    iexact HB
  iintro HB
  iapply (send_step m ρ c _ 0 6 (by decide) (by decide) (dev22_eq c) (OR 1 0 c) (sS := oS 0 7) (sR := oS 1 7) rfl rfl) $$ [HB]
  · isplitr; · iexact HR
    iexact HB
  iintro HB
  rw [wp_ret]; imodintro
  iexact HB

/-- Part 13 of the body. -/
theorem part13_wp (c : Dev nD) (v2 : BitVec 32) (v368 : BitVec 32) (c16_i32_299 : BitVec 32) (c0_i32_300 : BitVec 32) :
    iprop((levAts L lv : sProp 𝕄) ∗ records m ρ ∗ SB m ρ 0 7 (OR 1 0 c) c)
      ⊢ wp frame (wpE (defs₀ (F := F)) 𝒱₀ (c : Thread nD τ) none) Set.univ
          (k0_part13 xM (Memref.isWhole_whole _) tM (Memref.isWhole_whole _) wM (Memref.isWhole_whole _) vM (Memref.isWhole_whole _) oM (Memref.isWhole_whole _) rM (Memref.isWhole_whole _) cc0_scratch1 cc0_scratch2 c v2 v368 c16_i32_299 c0_i32_300)
          (fun r => iprop(SB m ρ 0 8 (OR 1 0 c) c)) := by
  rw [k0_part13_eq_skeleton]; unfold k0_part13_skel
  simp only [semSignalWord, semWaitWord, Prog.lift, Prog.bind_op, Prog.bind_ret, Prog.pure_eq_ret, wp_deviceId]
  iintro ⟨#HL, #HR, HB⟩
  iapply (send_step m ρ c _ 0 7 (by decide) (by decide) (dev23_eq c) (OR 1 0 c) (sS := oS 0 8) (sR := oS 1 8) rfl rfl) $$ [HB]
  · isplitr; · iexact HR
    iexact HB
  iintro HB
  rw [wp_ret]; imodintro
  iexact HB

/-- Part 14 of the body. -/
theorem part14_wp (c : Dev nD) (v2 : BitVec 32) (v399 : BitVec 32) :
    iprop((levAts L lv : sProp 𝕄) ∗ records m ρ ∗ SB m ρ 0 8 (OR 1 0 c) c)
      ⊢ wp frame (wpE (defs₀ (F := F)) 𝒱₀ (c : Thread nD τ) none) Set.univ
          (k0_part14 xM (Memref.isWhole_whole _) tM (Memref.isWhole_whole _) wM (Memref.isWhole_whole _) vM (Memref.isWhole_whole _) oM (Memref.isWhole_whole _) rM (Memref.isWhole_whole _) cc0_scratch1 cc0_scratch2 c v2 v399)
          (fun r => iprop(SB m ρ 0 9 (OR 1 0 c) c)) := by
  rw [k0_part14_eq_skeleton]; unfold k0_part14_skel
  simp only [semSignalWord, semWaitWord, Prog.lift, Prog.bind_op, Prog.bind_ret, Prog.pure_eq_ret, wp_deviceId]
  iintro ⟨#HL, #HR, HB⟩
  iapply (send_step m ρ c _ 0 8 (by decide) (by decide) (dev24_eq c) (OR 1 0 c) (sS := oS 0 9) (sR := oS 1 9) rfl rfl) $$ [HB]
  · isplitr; · iexact HR
    iexact HB
  iintro HB
  rw [wp_ret]; imodintro
  iexact HB

/-- Part 15 of the body. -/
theorem part15_wp (c : Dev nD) (v2 : BitVec 32) :
    iprop((levAts L lv : sProp 𝕄) ∗ records m ρ ∗ SB m ρ 0 9 (OR 1 0 c) c)
      ⊢ wp frame (wpE (defs₀ (F := F)) 𝒱₀ (c : Thread nD τ) none) Set.univ
          (k0_part15 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(SB m ρ 0 11 (OR 1 0 c) c)) := by
  rw [k0_part15_eq_skeleton]; unfold k0_part15_skel
  simp only [semSignalWord, semWaitWord, Prog.lift, Prog.bind_op, Prog.bind_ret, Prog.pure_eq_ret, wp_deviceId]
  iintro ⟨#HL, #HR, HB⟩
  iapply (send_step m ρ c _ 0 9 (by decide) (by decide) (dev25_eq c) (OR 1 0 c) (sS := oS 0 10) (sR := oS 1 10) rfl rfl) $$ [HB]
  · isplitr; · iexact HR
    iexact HB
  iintro HB
  iapply (send_step m ρ c _ 0 10 (by decide) (by decide) (dev26_eq c) (OR 1 0 c) (sS := oS 0 11) (sR := oS 1 11) rfl rfl) $$ [HB]
  · isplitr; · iexact HR
    iexact HB
  iintro HB
  rw [wp_ret]; imodintro
  iexact HB

/-- Part 16 of the body. -/
theorem part16_wp (c : Dev nD) (v2 : BitVec 32) (v454 : BitVec 32) (v455 : BitVec 32) (v460 : BitVec 1) :
    iprop((levAts L lv : sProp 𝕄) ∗ records m ρ ∗ SB m ρ 0 11 (OR 1 0 c) c)
      ⊢ wp frame (wpE (defs₀ (F := F)) 𝒱₀ (c : Thread nD τ) none) Set.univ
          (k0_part16 xM (Memref.isWhole_whole _) tM (Memref.isWhole_whole _) wM (Memref.isWhole_whole _) vM (Memref.isWhole_whole _) oM (Memref.isWhole_whole _) rM (Memref.isWhole_whole _) cc0_scratch1 cc0_scratch2 c v2 v454 v455 v460)
          (fun r => iprop(SB m ρ 0 12 (OR 1 0 c) c)) := by
  rw [k0_part16_eq_skeleton]; unfold k0_part16_skel
  simp only [semSignalWord, semWaitWord, Prog.lift, Prog.bind_op, Prog.bind_ret, Prog.pure_eq_ret, wp_deviceId]
  iintro ⟨#HL, #HR, HB⟩
  iapply (send_step m ρ c _ 0 11 (by decide) (by decide) (dev27_eq c) (OR 1 0 c) (sS := oS 0 12) (sR := oS 1 12) rfl rfl) $$ [HB]
  · isplitr; · iexact HR
    iexact HB
  iintro HB
  rw [wp_ret]; imodintro
  iexact HB

/-- Part 17 of the body. -/
theorem part17_wp (c : Dev nD) (v2 : BitVec 32) :
    iprop((levAts L lv : sProp 𝕄) ∗ records m ρ ∗ SB m ρ 0 12 (OR 1 0 c) c)
      ⊢ wp frame (wpE (defs₀ (F := F)) 𝒱₀ (c : Thread nD τ) none) Set.univ
          (k0_part17 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(SB m ρ 0 14 (OR 1 0 c) c)) := by
  rw [k0_part17_eq_skeleton]; unfold k0_part17_skel
  simp only [semSignalWord, semWaitWord, Prog.lift, Prog.bind_op, Prog.bind_ret, Prog.pure_eq_ret, wp_deviceId]
  iintro ⟨#HL, #HR, HB⟩
  iapply (send_step m ρ c _ 0 12 (by decide) (by decide) (dev28_eq c) (OR 1 0 c) (sS := oS 0 13) (sR := oS 1 13) rfl rfl) $$ [HB]
  · isplitr; · iexact HR
    iexact HB
  iintro HB
  iapply (send_step m ρ c _ 0 13 (by decide) (by decide) (dev29_eq c) (OR 1 0 c) (sS := oS 0 14) (sR := oS 1 14) rfl rfl) $$ [HB]
  · isplitr; · iexact HR
    iexact HB
  iintro HB
  rw [wp_ret]; imodintro
  iexact HB

/-- Part 18 of the body. -/
theorem part18_wp (c : Dev nD) (v517 : BitVec 32) (v518 : BitVec 32) (v519 : BitVec 1) :
    iprop((levAts L lv : sProp 𝕄) ∗ records m ρ ∗ SB m ρ 0 14 (OR 1 0 c) c ∗ (((c : Thread nD τ).loc cc0_stg0_0) ↦{fullShare} xstg m ρ c) ∗ statPts m ρ c 1 0)
      ⊢ wp frame (wpE (defs₀ (F := F)) 𝒱₀ (c : Thread nD τ) none) Set.univ
          (k0_part18 xM (Memref.isWhole_whole _) tM (Memref.isWhole_whole _) wM (Memref.isWhole_whole _) vM (Memref.isWhole_whole _) oM (Memref.isWhole_whole _) rM (Memref.isWhole_whole _) cc0_scratch1 cc0_scratch2 c v517 v518 v519)
          (fun r => iprop(SB m ρ 0 15 (OR 1 0 c) c ∗ (((c : Thread nD τ).loc cc0_stg0_0) ↦{fullShare} xstg m ρ c) ∗ statPts m ρ c 1 2)) := by
  rw [k0_part18_eq_skeleton]; unfold k0_part18_skel
  simp only [semSignalWord, semWaitWord, Prog.lift, Prog.bind_op, Prog.bind_ret, Prog.pure_eq_ret, wp_deviceId]
  iintro ⟨#HL, #HR, HB, HX, Hst⟩
  iapply (send_step m ρ c _ 0 14 (by decide) (by decide) (dev30_eq c) (OR 1 0 c) (sS := oS 0 15) (sR := oS 1 15) rfl rfl) $$ [HB]
  · isplitr; · iexact HR
    iexact HB
  iintro HB
  iapply (x_load m ρ c 2) $$ HX
  iintro HX
  iapply (stat_load m ρ c 1 0 0 0) $$ Hst
  iintro %_ Hst
  iapply (stat_store m ρ c 1 0 0 rfl) $$ Hst
  iintro Hst
  iapply (stat_load m ρ c 1 0 1 1) $$ Hst
  iintro %_ Hst
  iapply (stat_store m ρ c 1 0 1 rfl) $$ Hst
  iintro Hst
  rw [wp_ret]; imodintro
  isplitl [HB]; · iexact HB
  isplitl [HX]; · iexact HX
  iexact Hst

/-- Part 19 of the body. -/
theorem part19_wp (c : Dev nD) :
    iprop((levAts L lv : sProp 𝕄) ∗ records m ρ ∗ (((c : Thread nD τ).loc cc0_stg0_0) ↦{fullShare} xstg m ρ c) ∗ statPts m ρ c 1 2 ∗ SC m ρ 0 0 (OR 1 0 c) c)
      ⊢ wp frame (wpE (defs₀ (F := F)) 𝒱₀ (c : Thread nD τ) none) Set.univ
          (k0_part19 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop((((c : Thread nD τ).loc cc0_stg0_0) ↦{fullShare} xstg m ρ c) ∗ statPts m ρ c 1 4 ∗ SC m ρ 0 1 (OR 1 0 c) c)) := by
  rw [k0_part19_eq_skeleton]; unfold k0_part19_skel
  simp only [semSignalWord, semWaitWord, Prog.lift, Prog.bind_op, Prog.bind_ret, Prog.pure_eq_ret, wp_deviceId]
  iintro ⟨#HL, #HR, HX, Hst, HC⟩
  iapply (x_load m ρ c 3) $$ HX
  iintro HX
  iapply (stat_load m ρ c 1 1 0 2) $$ Hst
  iintro %_ Hst
  iapply (stat_store m ρ c 1 1 0 rfl) $$ Hst
  iintro Hst
  iapply (stat_load m ρ c 1 1 1 3) $$ Hst
  iintro %_ Hst
  iapply (stat_store m ρ c 1 1 1 rfl) $$ Hst
  iintro Hst
  iapply (waitsend_op m ρ c 0 0 (by decide) (by decide) (OR 1 0 c) (Or.inl rfl) (sS := oS 0 1) rfl) $$ [HC]
  · isplitr; · iexact HL
    isplitr; · iexact HR
    iexact HC
  iintro HC
  rw [wp_ret]; imodintro
  isplitl [HX]; · iexact HX
  isplitl [Hst]; · iexact Hst
  iexact HC

/-- Part 20 of the body. -/
theorem part20_wp (c : Dev nD) :
    iprop((levAts L lv : sProp 𝕄) ∗ records m ρ ∗ SC m ρ 0 1 (OR 1 0 c) c)
      ⊢ wp frame (wpE (defs₀ (F := F)) 𝒱₀ (c : Thread nD τ) none) Set.univ
          (k0_part20 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 0 5 (OR 1 0 c) c)) := by
  rw [k0_part20_eq_skeleton]; unfold k0_part20_skel
  simp only [semSignalWord, semWaitWord, Prog.lift, Prog.bind_op, Prog.bind_ret, Prog.pure_eq_ret, wp_deviceId]
  iintro ⟨#HL, #HR, HC⟩
  iapply (waitsend_op m ρ c 0 1 (by decide) (by decide) (OR 1 0 c) (Or.inl rfl) (sS := oS 0 2) rfl) $$ [HC]
  · isplitr; · iexact HL
    isplitr; · iexact HR
    iexact HC
  iintro HC
  iapply (waitsend_op m ρ c 0 2 (by decide) (by decide) (OR 1 0 c) (Or.inl rfl) (sS := oS 0 3) rfl) $$ [HC]
  · isplitr; · iexact HL
    isplitr; · iexact HR
    iexact HC
  iintro HC
  iapply (waitsend_op m ρ c 0 3 (by decide) (by decide) (OR 1 0 c) (Or.inl rfl) (sS := oS 0 4) rfl) $$ [HC]
  · isplitr; · iexact HL
    isplitr; · iexact HR
    iexact HC
  iintro HC
  iapply (waitsend_op m ρ c 0 4 (by decide) (by decide) (OR 1 0 c) (Or.inl rfl) (sS := oS 0 5) rfl) $$ [HC]
  · isplitr; · iexact HL
    isplitr; · iexact HR
    iexact HC
  iintro HC
  rw [wp_ret]; imodintro
  iexact HC

/-- Part 21 of the body. -/
theorem part21_wp (c : Dev nD) :
    iprop((levAts L lv : sProp 𝕄) ∗ records m ρ ∗ SC m ρ 0 5 (OR 1 0 c) c)
      ⊢ wp frame (wpE (defs₀ (F := F)) 𝒱₀ (c : Thread nD τ) none) Set.univ
          (k0_part21 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 0 8 (OR 1 0 c) c)) := by
  rw [k0_part21_eq_skeleton]; unfold k0_part21_skel
  simp only [semSignalWord, semWaitWord, Prog.lift, Prog.bind_op, Prog.bind_ret, Prog.pure_eq_ret, wp_deviceId]
  iintro ⟨#HL, #HR, HC⟩
  iapply (waitsend_op m ρ c 0 5 (by decide) (by decide) (OR 1 0 c) (Or.inl rfl) (sS := oS 0 6) rfl) $$ [HC]
  · isplitr; · iexact HL
    isplitr; · iexact HR
    iexact HC
  iintro HC
  iapply (waitsend_op m ρ c 0 6 (by decide) (by decide) (OR 1 0 c) (Or.inl rfl) (sS := oS 0 7) rfl) $$ [HC]
  · isplitr; · iexact HL
    isplitr; · iexact HR
    iexact HC
  iintro HC
  iapply (waitsend_op m ρ c 0 7 (by decide) (by decide) (OR 1 0 c) (Or.inl rfl) (sS := oS 0 8) rfl) $$ [HC]
  · isplitr; · iexact HL
    isplitr; · iexact HR
    iexact HC
  iintro HC
  rw [wp_ret]; imodintro
  iexact HC

/-- Part 22 of the body. -/
theorem part22_wp (c : Dev nD) :
    iprop((levAts L lv : sProp 𝕄) ∗ records m ρ ∗ SC m ρ 0 8 (OR 1 0 c) c)
      ⊢ wp frame (wpE (defs₀ (F := F)) 𝒱₀ (c : Thread nD τ) none) Set.univ
          (k0_part22 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 0 11 (OR 1 0 c) c)) := by
  rw [k0_part22_eq_skeleton]; unfold k0_part22_skel
  simp only [semSignalWord, semWaitWord, Prog.lift, Prog.bind_op, Prog.bind_ret, Prog.pure_eq_ret, wp_deviceId]
  iintro ⟨#HL, #HR, HC⟩
  iapply (waitsend_op m ρ c 0 8 (by decide) (by decide) (OR 1 0 c) (Or.inl rfl) (sS := oS 0 9) rfl) $$ [HC]
  · isplitr; · iexact HL
    isplitr; · iexact HR
    iexact HC
  iintro HC
  iapply (waitsend_op m ρ c 0 9 (by decide) (by decide) (OR 1 0 c) (Or.inl rfl) (sS := oS 0 10) rfl) $$ [HC]
  · isplitr; · iexact HL
    isplitr; · iexact HR
    iexact HC
  iintro HC
  iapply (waitsend_op m ρ c 0 10 (by decide) (by decide) (OR 1 0 c) (Or.inl rfl) (sS := oS 0 11) rfl) $$ [HC]
  · isplitr; · iexact HL
    isplitr; · iexact HR
    iexact HC
  iintro HC
  rw [wp_ret]; imodintro
  iexact HC

/-- Part 23 of the body. -/
theorem part23_wp (c : Dev nD) :
    iprop((levAts L lv : sProp 𝕄) ∗ records m ρ ∗ SC m ρ 0 11 (OR 1 0 c) c)
      ⊢ wp frame (wpE (defs₀ (F := F)) 𝒱₀ (c : Thread nD τ) none) Set.univ
          (k0_part23 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 0 14 (OR 1 0 c) c)) := by
  rw [k0_part23_eq_skeleton]; unfold k0_part23_skel
  simp only [semSignalWord, semWaitWord, Prog.lift, Prog.bind_op, Prog.bind_ret, Prog.pure_eq_ret, wp_deviceId]
  iintro ⟨#HL, #HR, HC⟩
  iapply (waitsend_op m ρ c 0 11 (by decide) (by decide) (OR 1 0 c) (Or.inl rfl) (sS := oS 0 12) rfl) $$ [HC]
  · isplitr; · iexact HL
    isplitr; · iexact HR
    iexact HC
  iintro HC
  iapply (waitsend_op m ρ c 0 12 (by decide) (by decide) (OR 1 0 c) (Or.inl rfl) (sS := oS 0 13) rfl) $$ [HC]
  · isplitr; · iexact HL
    isplitr; · iexact HR
    iexact HC
  iintro HC
  iapply (waitsend_op m ρ c 0 13 (by decide) (by decide) (OR 1 0 c) (Or.inl rfl) (sS := oS 0 14) rfl) $$ [HC]
  · isplitr; · iexact HL
    isplitr; · iexact HR
    iexact HC
  iintro HC
  rw [wp_ret]; imodintro
  iexact HC

/-- Part 24 of the body. -/
theorem part24_wp (c : Dev nD) (Z : sProp 𝕄) (v2 : BitVec 32) :
    iprop((levAts L lv : sProp 𝕄) ∗ records m ρ ∗ SC m ρ 0 14 (OR 1 0 c) c ∗ (SC m ρ 0 15 (OR 1 0 c) c -∗ (SB m ρ 1 0 0 c ∗ Z)))
      ⊢ wp frame (wpE (defs₀ (F := F)) 𝒱₀ (c : Thread nD τ) none) Set.univ
          (k0_part24 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(Z ∗ SB m ρ 1 1 0 c)) := by
  rw [k0_part24_eq_skeleton]; unfold k0_part24_skel
  simp only [semSignalWord, semWaitWord, Prog.lift, Prog.bind_op, Prog.bind_ret, Prog.pure_eq_ret, wp_deviceId]
  iintro ⟨#HL, #HR, HC, Hc⟩
  iapply (waitsend_op m ρ c 0 14 (by decide) (by decide) (OR 1 0 c) (Or.inl rfl) (sS := oS 0 15) rfl) $$ [HC]
  · isplitr; · iexact HL
    isplitr; · iexact HR
    iexact HC
  iintro HC
  ihave Hs := Hc $$ HC
  icases Hs with ⟨HB, HZ⟩
  iapply (send_step m ρ c _ 1 0 (by decide) (by decide) (dev31_eq c) 0 (sS := oS 0 1) (sR := oS 2 1) rfl rfl) $$ [HB]
  · isplitr; · iexact HR
    iexact HB
  iintro HB
  rw [wp_ret]; imodintro
  isplitl [HZ]; · iexact HZ
  iexact HB

/-- Part 25 of the body. -/
theorem part25_wp (c : Dev nD) (v2 : BitVec 32) (v671 : BitVec 32) (v672 : BitVec 32) (c0_i32_685 : BitVec 32) :
    iprop((levAts L lv : sProp 𝕄) ∗ records m ρ ∗ SB m ρ 1 1 0 c)
      ⊢ wp frame (wpE (defs₀ (F := F)) 𝒱₀ (c : Thread nD τ) none) Set.univ
          (k0_part25 xM (Memref.isWhole_whole _) tM (Memref.isWhole_whole _) wM (Memref.isWhole_whole _) vM (Memref.isWhole_whole _) oM (Memref.isWhole_whole _) rM (Memref.isWhole_whole _) cc0_scratch1 cc0_scratch2 c v2 v671 v672 c0_i32_685)
          (fun r => iprop(SB m ρ 1 2 0 c)) := by
  rw [k0_part25_eq_skeleton]; unfold k0_part25_skel
  simp only [semSignalWord, semWaitWord, Prog.lift, Prog.bind_op, Prog.bind_ret, Prog.pure_eq_ret, wp_deviceId]
  iintro ⟨#HL, #HR, HB⟩
  iapply (send_step m ρ c _ 1 1 (by decide) (by decide) (dev32_eq c) 0 (sS := oS 0 2) (sR := oS 2 2) rfl rfl) $$ [HB]
  · isplitr; · iexact HR
    iexact HB
  iintro HB
  rw [wp_ret]; imodintro
  iexact HB

/-- Part 26 of the body. -/
theorem part26_wp (c : Dev nD) (v2 : BitVec 32) (v701 : BitVec 32) :
    iprop((levAts L lv : sProp 𝕄) ∗ records m ρ ∗ SB m ρ 1 2 0 c)
      ⊢ wp frame (wpE (defs₀ (F := F)) 𝒱₀ (c : Thread nD τ) none) Set.univ
          (k0_part26 xM (Memref.isWhole_whole _) tM (Memref.isWhole_whole _) wM (Memref.isWhole_whole _) vM (Memref.isWhole_whole _) oM (Memref.isWhole_whole _) rM (Memref.isWhole_whole _) cc0_scratch1 cc0_scratch2 c v2 v701)
          (fun r => iprop(SB m ρ 1 4 0 c)) := by
  rw [k0_part26_eq_skeleton]; unfold k0_part26_skel
  simp only [semSignalWord, semWaitWord, Prog.lift, Prog.bind_op, Prog.bind_ret, Prog.pure_eq_ret, wp_deviceId]
  iintro ⟨#HL, #HR, HB⟩
  iapply (send_step m ρ c _ 1 2 (by decide) (by decide) (dev33_eq c) 0 (sS := oS 0 3) (sR := oS 2 3) rfl rfl) $$ [HB]
  · isplitr; · iexact HR
    iexact HB
  iintro HB
  iapply (send_step m ρ c _ 1 3 (by decide) (by decide) (dev34_eq c) 0 (sS := oS 0 4) (sR := oS 2 4) rfl rfl) $$ [HB]
  · isplitr; · iexact HR
    iexact HB
  iintro HB
  rw [wp_ret]; imodintro
  iexact HB

/-- Part 27 of the body. -/
theorem part27_wp (c : Dev nD) (v2 : BitVec 32) (v732 : BitVec 32) (c16_i32_742 : BitVec 32) :
    iprop((levAts L lv : sProp 𝕄) ∗ records m ρ ∗ SB m ρ 1 4 0 c)
      ⊢ wp frame (wpE (defs₀ (F := F)) 𝒱₀ (c : Thread nD τ) none) Set.univ
          (k0_part27 xM (Memref.isWhole_whole _) tM (Memref.isWhole_whole _) wM (Memref.isWhole_whole _) vM (Memref.isWhole_whole _) oM (Memref.isWhole_whole _) rM (Memref.isWhole_whole _) cc0_scratch1 cc0_scratch2 c v2 v732 c16_i32_742)
          (fun r => iprop(SB m ρ 1 5 0 c)) := by
  rw [k0_part27_eq_skeleton]; unfold k0_part27_skel
  simp only [semSignalWord, semWaitWord, Prog.lift, Prog.bind_op, Prog.bind_ret, Prog.pure_eq_ret, wp_deviceId]
  iintro ⟨#HL, #HR, HB⟩
  iapply (send_step m ρ c _ 1 4 (by decide) (by decide) (dev35_eq c) 0 (sS := oS 0 5) (sR := oS 2 5) rfl rfl) $$ [HB]
  · isplitr; · iexact HR
    iexact HB
  iintro HB
  rw [wp_ret]; imodintro
  iexact HB

/-- Part 28 of the body. -/
theorem part28_wp (c : Dev nD) (v2 : BitVec 32) (v763 : BitVec 32) :
    iprop((levAts L lv : sProp 𝕄) ∗ records m ρ ∗ SB m ρ 1 5 0 c)
      ⊢ wp frame (wpE (defs₀ (F := F)) 𝒱₀ (c : Thread nD τ) none) Set.univ
          (k0_part28 xM (Memref.isWhole_whole _) tM (Memref.isWhole_whole _) wM (Memref.isWhole_whole _) vM (Memref.isWhole_whole _) oM (Memref.isWhole_whole _) rM (Memref.isWhole_whole _) cc0_scratch1 cc0_scratch2 c v2 v763)
          (fun r => iprop(SB m ρ 1 6 0 c)) := by
  rw [k0_part28_eq_skeleton]; unfold k0_part28_skel
  simp only [semSignalWord, semWaitWord, Prog.lift, Prog.bind_op, Prog.bind_ret, Prog.pure_eq_ret, wp_deviceId]
  iintro ⟨#HL, #HR, HB⟩
  iapply (send_step m ρ c _ 1 5 (by decide) (by decide) (dev36_eq c) 0 (sS := oS 0 6) (sR := oS 2 6) rfl rfl) $$ [HB]
  · isplitr; · iexact HR
    iexact HB
  iintro HB
  rw [wp_ret]; imodintro
  iexact HB

/-- Part 29 of the body. -/
theorem part29_wp (c : Dev nD) (v2 : BitVec 32) :
    iprop((levAts L lv : sProp 𝕄) ∗ records m ρ ∗ SB m ρ 1 6 0 c)
      ⊢ wp frame (wpE (defs₀ (F := F)) 𝒱₀ (c : Thread nD τ) none) Set.univ
          (k0_part29 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(SB m ρ 1 8 0 c)) := by
  rw [k0_part29_eq_skeleton]; unfold k0_part29_skel
  simp only [semSignalWord, semWaitWord, Prog.lift, Prog.bind_op, Prog.bind_ret, Prog.pure_eq_ret, wp_deviceId]
  iintro ⟨#HL, #HR, HB⟩
  iapply (send_step m ρ c _ 1 6 (by decide) (by decide) (dev37_eq c) 0 (sS := oS 0 7) (sR := oS 2 7) rfl rfl) $$ [HB]
  · isplitr; · iexact HR
    iexact HB
  iintro HB
  iapply (send_step m ρ c _ 1 7 (by decide) (by decide) (dev38_eq c) 0 (sS := oS 0 8) (sR := oS 2 8) rfl rfl) $$ [HB]
  · isplitr; · iexact HR
    iexact HB
  iintro HB
  rw [wp_ret]; imodintro
  iexact HB

/-- Part 30 of the body. -/
theorem part30_wp (c : Dev nD) (v2 : BitVec 32) (v818 : BitVec 32) (v819 : BitVec 32) (v820 : BitVec 1) (v823 : BitVec 1) :
    iprop((levAts L lv : sProp 𝕄) ∗ records m ρ ∗ SB m ρ 1 8 0 c)
      ⊢ wp frame (wpE (defs₀ (F := F)) 𝒱₀ (c : Thread nD τ) none) Set.univ
          (k0_part30 xM (Memref.isWhole_whole _) tM (Memref.isWhole_whole _) wM (Memref.isWhole_whole _) vM (Memref.isWhole_whole _) oM (Memref.isWhole_whole _) rM (Memref.isWhole_whole _) cc0_scratch1 cc0_scratch2 c v2 v818 v819 v820 v823)
          (fun r => iprop(SB m ρ 1 9 0 c)) := by
  rw [k0_part30_eq_skeleton]; unfold k0_part30_skel
  simp only [semSignalWord, semWaitWord, Prog.lift, Prog.bind_op, Prog.bind_ret, Prog.pure_eq_ret, wp_deviceId]
  iintro ⟨#HL, #HR, HB⟩
  iapply (send_step m ρ c _ 1 8 (by decide) (by decide) (dev39_eq c) 0 (sS := oS 0 9) (sR := oS 2 9) rfl rfl) $$ [HB]
  · isplitr; · iexact HR
    iexact HB
  iintro HB
  rw [wp_ret]; imodintro
  iexact HB

/-- Part 31 of the body. -/
theorem part31_wp (c : Dev nD) (v2 : BitVec 32) :
    iprop((levAts L lv : sProp 𝕄) ∗ records m ρ ∗ SB m ρ 1 9 0 c)
      ⊢ wp frame (wpE (defs₀ (F := F)) 𝒱₀ (c : Thread nD τ) none) Set.univ
          (k0_part31 xM (Memref.isWhole_whole _) tM (Memref.isWhole_whole _) wM (Memref.isWhole_whole _) vM (Memref.isWhole_whole _) oM (Memref.isWhole_whole _) rM (Memref.isWhole_whole _) cc0_scratch1 cc0_scratch2 c v2)
          (fun r => iprop(SB m ρ 1 11 0 c)) := by
  rw [k0_part31_eq_skeleton]; unfold k0_part31_skel
  simp only [semSignalWord, semWaitWord, Prog.lift, Prog.bind_op, Prog.bind_ret, Prog.pure_eq_ret, wp_deviceId]
  iintro ⟨#HL, #HR, HB⟩
  iapply (send_step m ρ c _ 1 9 (by decide) (by decide) (dev40_eq c) 0 (sS := oS 0 10) (sR := oS 2 10) rfl rfl) $$ [HB]
  · isplitr; · iexact HR
    iexact HB
  iintro HB
  iapply (send_step m ρ c _ 1 10 (by decide) (by decide) (dev41_eq c) 0 (sS := oS 0 11) (sR := oS 2 11) rfl rfl) $$ [HB]
  · isplitr; · iexact HR
    iexact HB
  iintro HB
  rw [wp_ret]; imodintro
  iexact HB

/-- Part 32 of the body. -/
theorem part32_wp (c : Dev nD) (v2 : BitVec 32) (v881 : BitVec 32) (v882 : BitVec 32) (c0_i32_885 : BitVec 32) :
    iprop((levAts L lv : sProp 𝕄) ∗ records m ρ ∗ SB m ρ 1 11 0 c)
      ⊢ wp frame (wpE (defs₀ (F := F)) 𝒱₀ (c : Thread nD τ) none) Set.univ
          (k0_part32 xM (Memref.isWhole_whole _) tM (Memref.isWhole_whole _) wM (Memref.isWhole_whole _) vM (Memref.isWhole_whole _) oM (Memref.isWhole_whole _) rM (Memref.isWhole_whole _) cc0_scratch1 cc0_scratch2 c v2 v881 v882 c0_i32_885)
          (fun r => iprop(SB m ρ 1 12 0 c)) := by
  rw [k0_part32_eq_skeleton]; unfold k0_part32_skel
  simp only [semSignalWord, semWaitWord, Prog.lift, Prog.bind_op, Prog.bind_ret, Prog.pure_eq_ret, wp_deviceId]
  iintro ⟨#HL, #HR, HB⟩
  iapply (send_step m ρ c _ 1 11 (by decide) (by decide) (dev42_eq c) 0 (sS := oS 0 12) (sR := oS 2 12) rfl rfl) $$ [HB]
  · isplitr; · iexact HR
    iexact HB
  iintro HB
  rw [wp_ret]; imodintro
  iexact HB

/-- Part 33 of the body. -/
theorem part33_wp (c : Dev nD) (v2 : BitVec 32) (v911 : BitVec 32) :
    iprop((levAts L lv : sProp 𝕄) ∗ records m ρ ∗ SB m ρ 1 12 0 c)
      ⊢ wp frame (wpE (defs₀ (F := F)) 𝒱₀ (c : Thread nD τ) none) Set.univ
          (k0_part33 xM (Memref.isWhole_whole _) tM (Memref.isWhole_whole _) wM (Memref.isWhole_whole _) vM (Memref.isWhole_whole _) oM (Memref.isWhole_whole _) rM (Memref.isWhole_whole _) cc0_scratch1 cc0_scratch2 c v2 v911)
          (fun r => iprop(SB m ρ 1 14 0 c)) := by
  rw [k0_part33_eq_skeleton]; unfold k0_part33_skel
  simp only [semSignalWord, semWaitWord, Prog.lift, Prog.bind_op, Prog.bind_ret, Prog.pure_eq_ret, wp_deviceId]
  iintro ⟨#HL, #HR, HB⟩
  iapply (send_step m ρ c _ 1 12 (by decide) (by decide) (dev43_eq c) 0 (sS := oS 0 13) (sR := oS 2 13) rfl rfl) $$ [HB]
  · isplitr; · iexact HR
    iexact HB
  iintro HB
  iapply (send_step m ρ c _ 1 13 (by decide) (by decide) (dev44_eq c) 0 (sS := oS 0 14) (sR := oS 2 14) rfl rfl) $$ [HB]
  · isplitr; · iexact HR
    iexact HB
  iintro HB
  rw [wp_ret]; imodintro
  iexact HB

/-- Part 34 of the body. -/
theorem part34_wp (c : Dev nD) (v942 : BitVec 32) (c16_i32_942 : BitVec 32) :
    iprop((levAts L lv : sProp 𝕄) ∗ records m ρ ∗ SB m ρ 1 14 0 c ∗ (((c : Thread nD τ).loc cc0_stg1_0) ↦{fullShare} tstg m ρ c) ∗ (((c : Thread nD τ).loc cc0_stg2_0) ↦{fullShare} wstg m ρ c) ∗ (((c : Thread nD τ).loc cc0_stg3_0) ↦{fullShare} vstg m ρ c))
      ⊢ wp frame (wpE (defs₀ (F := F)) 𝒱₀ (c : Thread nD τ) none) Set.univ
          (k0_part34 xM (Memref.isWhole_whole _) tM (Memref.isWhole_whole _) wM (Memref.isWhole_whole _) vM (Memref.isWhole_whole _) oM (Memref.isWhole_whole _) rM (Memref.isWhole_whole _) cc0_scratch1 cc0_scratch2 c v942 c16_i32_942)
          (fun r => iprop(⌜∃ a, r = ⟨a, (sc m ρ c), (k0_pay15 (tch m ρ c)), (k0_pay16 (vch m ρ c))⟩⌝ ∗ SB m ρ 1 15 0 c ∗ (((c : Thread nD τ).loc cc0_stg1_0) ↦{fullShare} tstg m ρ c) ∗ (((c : Thread nD τ).loc cc0_stg2_0) ↦{fullShare} wstg m ρ c) ∗ (((c : Thread nD τ).loc cc0_stg3_0) ↦{fullShare} vstg m ρ c))) := by
  rw [k0_part34_eq_skeleton]; unfold k0_part34_skel
  simp only [semSignalWord, semWaitWord, Prog.lift, Prog.bind_op, Prog.bind_ret, Prog.pure_eq_ret, wp_deviceId]
  iintro ⟨#HL, #HR, HB, HT, HW, HV⟩
  iapply (send_step m ρ c _ 1 14 (by decide) (by decide) (dev45_eq c) 0 (sS := oS 0 15) (sR := oS 2 15) rfl rfl) $$ [HB]
  · isplitr; · iexact HR
    iexact HB
  iintro HB
  iapply (wp_load 𝒱₀ (c : Thread nD τ) none Set.univ (m := tM) (S := Finset.univ) (f := tstg m ρ c) (Finset.subset_univ _)) $$ HT
  iintro HT
  iapply (wp_load 𝒱₀ (c : Thread nD τ) none Set.univ (m := wM) (S := Finset.univ) (f := wstg m ρ c) (Finset.subset_univ _)) $$ HW
  iintro HW
  iapply (wp_load 𝒱₀ (c : Thread nD τ) none Set.univ (m := tM) (S := Finset.univ) (f := tstg m ρ c) (Finset.subset_univ _)) $$ HT
  iintro HT
  iapply (wp_load 𝒱₀ (c : Thread nD τ) none Set.univ (m := vM) (S := Finset.univ) (f := vstg m ρ c) (Finset.subset_univ _)) $$ HV
  iintro HV
  rw [wp_ret]; imodintro
  isplitr
  · ipureintro; exact ⟨_, rfl⟩
  isplitl [HB]; · iexact HB
  isplitl [HT]; · iexact HT
  isplitl [HW]; · iexact HW
  iexact HV

/-- Part 35 of the body. -/
theorem part35_wp (c : Dev nD) (v231 : BitVec 32) (v252 : BitVec 32) (v273 : BitVec 32) :
    iprop((levAts L lv : sProp 𝕄) ∗ records m ρ ∗ SD m ρ 0 0 c)
      ⊢ wp frame (wpE (defs₀ (F := F)) 𝒱₀ (c : Thread nD τ) none) Set.univ
          (k0_part35 xM (Memref.isWhole_whole _) tM (Memref.isWhole_whole _) wM (Memref.isWhole_whole _) vM (Memref.isWhole_whole _) oM (Memref.isWhole_whole _) rM (Memref.isWhole_whole _) cc0_scratch1 cc0_scratch2 v231 v252 v273 (k0_pay15 (tch m ρ c)) (k0_pay16 (vch m ρ c)))
          (fun r => iprop(⌜r = (sh m ρ c)⌝ ∗ SD m ρ 0 2 c)) := by
  rw [k0_part35_eq_skeleton]; unfold k0_part35_skel
  simp only [semSignalWord, semWaitWord, Prog.lift, Prog.bind_op, Prog.bind_ret, Prog.pure_eq_ret, wp_deviceId]
  iintro ⟨#HL, #HR, HD⟩
  iapply (waitrecv_op m ρ c 0 0 (by decide) (by decide) (sR := oS 1 1) rfl) $$ [HD]
  · isplitr; · iexact HR
    iexact HD
  iintro HD
  iapply (waitrecv_op m ρ c 0 1 (by decide) (by decide) (sR := oS 1 2) rfl) $$ [HD]
  · isplitr; · iexact HR
    iexact HD
  iintro HD
  rw [wp_ret]; imodintro
  isplitr
  · ipureintro; exact rfl
  iexact HD

/-- Part 36 of the body. -/
theorem part36_wp (c : Dev nD) (v294 : BitVec 32) (v315 : BitVec 32) :
    iprop((levAts L lv : sProp 𝕄) ∗ records m ρ ∗ SD m ρ 0 2 c)
      ⊢ wp frame (wpE (defs₀ (F := F)) 𝒱₀ (c : Thread nD τ) none) Set.univ
          (k0_part36 xM (Memref.isWhole_whole _) tM (Memref.isWhole_whole _) wM (Memref.isWhole_whole _) vM (Memref.isWhole_whole _) oM (Memref.isWhole_whole _) rM (Memref.isWhole_whole _) cc0_scratch1 cc0_scratch2 v294 v315)
          (fun r => iprop(SD m ρ 0 5 c)) := by
  rw [k0_part36_eq_skeleton]; unfold k0_part36_skel
  simp only [semSignalWord, semWaitWord, Prog.lift, Prog.bind_op, Prog.bind_ret, Prog.pure_eq_ret, wp_deviceId]
  iintro ⟨#HL, #HR, HD⟩
  iapply (waitrecv_op m ρ c 0 2 (by decide) (by decide) (sR := oS 1 3) rfl) $$ [HD]
  · isplitr; · iexact HR
    iexact HD
  iintro HD
  iapply (waitrecv_op m ρ c 0 3 (by decide) (by decide) (sR := oS 1 4) rfl) $$ [HD]
  · isplitr; · iexact HR
    iexact HD
  iintro HD
  iapply (waitrecv_op m ρ c 0 4 (by decide) (by decide) (sR := oS 1 5) rfl) $$ [HD]
  · isplitr; · iexact HR
    iexact HD
  iintro HD
  rw [wp_ret]; imodintro
  iexact HD

/-- Part 37 of the body. -/
theorem part37_wp (c : Dev nD) (v336 : BitVec 32) (v357 : BitVec 32) (v378 : BitVec 32) (c1_i32_1044 : BitVec 32) :
    iprop((levAts L lv : sProp 𝕄) ∗ records m ρ ∗ SD m ρ 0 5 c)
      ⊢ wp frame (wpE (defs₀ (F := F)) 𝒱₀ (c : Thread nD τ) none) Set.univ
          (k0_part37 xM (Memref.isWhole_whole _) tM (Memref.isWhole_whole _) wM (Memref.isWhole_whole _) vM (Memref.isWhole_whole _) oM (Memref.isWhole_whole _) rM (Memref.isWhole_whole _) cc0_scratch1 cc0_scratch2 v336 v357 v378 c1_i32_1044)
          (fun r => iprop(SD m ρ 0 8 c)) := by
  rw [k0_part37_eq_skeleton]; unfold k0_part37_skel
  simp only [semSignalWord, semWaitWord, Prog.lift, Prog.bind_op, Prog.bind_ret, Prog.pure_eq_ret, wp_deviceId]
  iintro ⟨#HL, #HR, HD⟩
  iapply (waitrecv_op m ρ c 0 5 (by decide) (by decide) (sR := oS 1 6) rfl) $$ [HD]
  · isplitr; · iexact HR
    iexact HD
  iintro HD
  iapply (waitrecv_op m ρ c 0 6 (by decide) (by decide) (sR := oS 1 7) rfl) $$ [HD]
  · isplitr; · iexact HR
    iexact HD
  iintro HD
  iapply (waitrecv_op m ρ c 0 7 (by decide) (by decide) (sR := oS 1 8) rfl) $$ [HD]
  · isplitr; · iexact HR
    iexact HD
  iintro HD
  rw [wp_ret]; imodintro
  iexact HD

/-- Part 38 of the body. -/
theorem part38_wp (c : Dev nD) (v399 : BitVec 32) (v420 : BitVec 32) (v441 : BitVec 32) :
    iprop((levAts L lv : sProp 𝕄) ∗ records m ρ ∗ SD m ρ 0 8 c)
      ⊢ wp frame (wpE (defs₀ (F := F)) 𝒱₀ (c : Thread nD τ) none) Set.univ
          (k0_part38 xM (Memref.isWhole_whole _) tM (Memref.isWhole_whole _) wM (Memref.isWhole_whole _) vM (Memref.isWhole_whole _) oM (Memref.isWhole_whole _) rM (Memref.isWhole_whole _) cc0_scratch1 cc0_scratch2 v399 v420 v441)
          (fun r => iprop(SD m ρ 0 10 c)) := by
  rw [k0_part38_eq_skeleton]; unfold k0_part38_skel
  simp only [semSignalWord, semWaitWord, Prog.lift, Prog.bind_op, Prog.bind_ret, Prog.pure_eq_ret, wp_deviceId]
  iintro ⟨#HL, #HR, HD⟩
  iapply (waitrecv_op m ρ c 0 8 (by decide) (by decide) (sR := oS 1 9) rfl) $$ [HD]
  · isplitr; · iexact HR
    iexact HD
  iintro HD
  iapply (waitrecv_op m ρ c 0 9 (by decide) (by decide) (sR := oS 1 10) rfl) $$ [HD]
  · isplitr; · iexact HR
    iexact HD
  iintro HD
  rw [wp_ret]; imodintro
  iexact HD

/-- Part 39 of the body. -/
theorem part39_wp (c : Dev nD) (v462 : BitVec 32) (v483 : BitVec 32) (v504 : BitVec 32) :
    iprop((levAts L lv : sProp 𝕄) ∗ records m ρ ∗ SD m ρ 0 10 c)
      ⊢ wp frame (wpE (defs₀ (F := F)) 𝒱₀ (c : Thread nD τ) none) Set.univ
          (k0_part39 xM (Memref.isWhole_whole _) tM (Memref.isWhole_whole _) wM (Memref.isWhole_whole _) vM (Memref.isWhole_whole _) oM (Memref.isWhole_whole _) rM (Memref.isWhole_whole _) cc0_scratch1 cc0_scratch2 v462 v483 v504)
          (fun r => iprop(SD m ρ 0 13 c)) := by
  rw [k0_part39_eq_skeleton]; unfold k0_part39_skel
  simp only [semSignalWord, semWaitWord, Prog.lift, Prog.bind_op, Prog.bind_ret, Prog.pure_eq_ret, wp_deviceId]
  iintro ⟨#HL, #HR, HD⟩
  iapply (waitrecv_op m ρ c 0 10 (by decide) (by decide) (sR := oS 1 11) rfl) $$ [HD]
  · isplitr; · iexact HR
    iexact HD
  iintro HD
  iapply (waitrecv_op m ρ c 0 11 (by decide) (by decide) (sR := oS 1 12) rfl) $$ [HD]
  · isplitr; · iexact HR
    iexact HD
  iintro HD
  iapply (waitrecv_op m ρ c 0 12 (by decide) (by decide) (sR := oS 1 13) rfl) $$ [HD]
  · isplitr; · iexact HR
    iexact HD
  iintro HD
  rw [wp_ret]; imodintro
  iexact HD

/-- Part 40 of the body. -/
theorem part40_wp (c : Dev nD) (Z : sProp 𝕄) (v525 : BitVec 32) :
    iprop((levAts L lv : sProp 𝕄) ∗ records m ρ ∗ SD m ρ 0 13 c ∗ (SD m ρ 0 15 c -∗ (chunkPts c 0 fullShare (CA m ρ c) ∗ Z)) ∗ (((c : Thread nD τ).loc cc0_stg0_0) ↦{fullShare} xstg m ρ c))
      ⊢ wp frame (wpE (defs₀ (F := F)) 𝒱₀ (c : Thread nD τ) none) Set.univ
          (k0_part40 xM (Memref.isWhole_whole _) tM (Memref.isWhole_whole _) wM (Memref.isWhole_whole _) vM (Memref.isWhole_whole _) oM (Memref.isWhole_whole _) rM (Memref.isWhole_whole _) cc0_scratch1 cc0_scratch2 v525)
          (fun r => iprop(⌜r = ⟨(k0_pay19 (cch m ρ c 0)), (k0_pay20 (cch m ρ c 0)), (k0_pay21 (xch 0 (xstg m ρ c))), (k0_pay22 (cch m ρ c 0))⟩⌝ ∗ Z ∗ chunkPts c 0 fullShare (CA m ρ c) ∗ (((c : Thread nD τ).loc cc0_stg0_0) ↦{fullShare} xstg m ρ c))) := by
  rw [k0_part40_eq_skeleton]; unfold k0_part40_skel
  simp only [semSignalWord, semWaitWord, Prog.lift, Prog.bind_op, Prog.bind_ret, Prog.pure_eq_ret, wp_deviceId]
  iintro ⟨#HL, #HR, HD, Hc, HX⟩
  iapply (waitrecv_op m ρ c 0 13 (by decide) (by decide) (sR := oS 1 14) rfl) $$ [HD]
  · isplitr; · iexact HR
    iexact HD
  iintro HD
  iapply (waitrecv_op m ρ c 0 14 (by decide) (by decide) (sR := oS 1 15) rfl) $$ [HD]
  · isplitr; · iexact HR
    iexact HD
  iintro HD
  ihave Hs := Hc $$ HD
  icases Hs with ⟨Hch, HZ⟩
  iapply (chunk_load m ρ c 0 fullShare) $$ [Hch]
  · iexact Hch
  iintro Hch
  iapply (x_load m ρ c 0) $$ HX
  iintro HX
  rw [wp_ret]; imodintro
  isplitr
  · ipureintro; exact rfl
  isplitl [HZ]; · iexact HZ
  isplitl [Hch]; · iexact Hch
  iexact HX

/-- Part 41 of the body. -/
theorem part41_wp (c : Dev nD) (v658 : BitVec 32) :
    iprop((levAts L lv : sProp 𝕄) ∗ records m ρ ∗ outPts m ρ c 0 ∗ (((c : Thread nD τ).loc cc0_stg0_0) ↦{fullShare} xstg m ρ c))
      ⊢ wp frame (wpE (defs₀ (F := F)) 𝒱₀ (c : Thread nD τ) none) Set.univ
          (k0_part41 xM (Memref.isWhole_whole _) tM (Memref.isWhole_whole _) wM (Memref.isWhole_whole _) vM (Memref.isWhole_whole _) oM (Memref.isWhole_whole _) rM (Memref.isWhole_whole _) cc0_scratch1 cc0_scratch2 v658 (sc m ρ c) (sh m ρ c) (k0_pay19 (cch m ρ c 0)) (k0_pay20 (cch m ρ c 0)) (k0_pay21 (xch 0 (xstg m ρ c))) (k0_pay22 (cch m ρ c 0)))
          (fun r => iprop(outPts m ρ c 2 ∗ (((c : Thread nD τ).loc cc0_stg0_0) ↦{fullShare} xstg m ρ c))) := by
  rw [k0_part41_eq_skeleton]; unfold k0_part41_skel
  simp only [semSignalWord, semWaitWord, Prog.lift, Prog.bind_op, Prog.bind_ret, Prog.pure_eq_ret, wp_deviceId]
  iintro ⟨#HL, #HR, Ho, HX⟩
  iapply (out_load m ρ c 0 0) $$ Ho
  iintro %_ Ho
  iapply (out_store m ρ c 0 0 rfl rfl) $$ Ho
  iintro Ho
  iapply (x_load m ρ c 1) $$ HX
  iintro HX
  iapply (out_load m ρ c 1 1) $$ Ho
  iintro %_ Ho
  iapply (out_store m ρ c 1 1 rfl rfl) $$ Ho
  iintro Ho
  rw [wp_ret]; imodintro
  isplitl [Ho]; · iexact Ho
  iexact HX

/-- Part 42 of the body. -/
theorem part42_wp (c : Dev nD) (v679 : BitVec 32) (v700 : BitVec 32) (v721 : BitVec 32) :
    iprop((levAts L lv : sProp 𝕄) ∗ records m ρ ∗ SD m ρ 1 0 c)
      ⊢ wp frame (wpE (defs₀ (F := F)) 𝒱₀ (c : Thread nD τ) none) Set.univ
          (k0_part42 xM (Memref.isWhole_whole _) tM (Memref.isWhole_whole _) wM (Memref.isWhole_whole _) vM (Memref.isWhole_whole _) oM (Memref.isWhole_whole _) rM (Memref.isWhole_whole _) cc0_scratch1 cc0_scratch2 v679 v700 v721)
          (fun r => iprop(SD m ρ 1 3 c)) := by
  rw [k0_part42_eq_skeleton]; unfold k0_part42_skel
  simp only [semSignalWord, semWaitWord, Prog.lift, Prog.bind_op, Prog.bind_ret, Prog.pure_eq_ret, wp_deviceId]
  iintro ⟨#HL, #HR, HD⟩
  iapply (waitrecv_op m ρ c 1 0 (by decide) (by decide) (sR := oS 2 1) rfl) $$ [HD]
  · isplitr; · iexact HR
    iexact HD
  iintro HD
  iapply (waitrecv_op m ρ c 1 1 (by decide) (by decide) (sR := oS 2 2) rfl) $$ [HD]
  · isplitr; · iexact HR
    iexact HD
  iintro HD
  iapply (waitrecv_op m ρ c 1 2 (by decide) (by decide) (sR := oS 2 3) rfl) $$ [HD]
  · isplitr; · iexact HR
    iexact HD
  iintro HD
  rw [wp_ret]; imodintro
  iexact HD

/-- Part 43 of the body. -/
theorem part43_wp (c : Dev nD) (v742 : BitVec 32) (v763 : BitVec 32) :
    iprop((levAts L lv : sProp 𝕄) ∗ records m ρ ∗ SD m ρ 1 3 c)
      ⊢ wp frame (wpE (defs₀ (F := F)) 𝒱₀ (c : Thread nD τ) none) Set.univ
          (k0_part43 xM (Memref.isWhole_whole _) tM (Memref.isWhole_whole _) wM (Memref.isWhole_whole _) vM (Memref.isWhole_whole _) oM (Memref.isWhole_whole _) rM (Memref.isWhole_whole _) cc0_scratch1 cc0_scratch2 v742 v763)
          (fun r => iprop(SD m ρ 1 6 c)) := by
  rw [k0_part43_eq_skeleton]; unfold k0_part43_skel
  simp only [semSignalWord, semWaitWord, Prog.lift, Prog.bind_op, Prog.bind_ret, Prog.pure_eq_ret, wp_deviceId]
  iintro ⟨#HL, #HR, HD⟩
  iapply (waitrecv_op m ρ c 1 3 (by decide) (by decide) (sR := oS 2 4) rfl) $$ [HD]
  · isplitr; · iexact HR
    iexact HD
  iintro HD
  iapply (waitrecv_op m ρ c 1 4 (by decide) (by decide) (sR := oS 2 5) rfl) $$ [HD]
  · isplitr; · iexact HR
    iexact HD
  iintro HD
  iapply (waitrecv_op m ρ c 1 5 (by decide) (by decide) (sR := oS 2 6) rfl) $$ [HD]
  · isplitr; · iexact HR
    iexact HD
  iintro HD
  rw [wp_ret]; imodintro
  iexact HD

/-- Part 44 of the body. -/
theorem part44_wp (c : Dev nD) (v784 : BitVec 32) (v805 : BitVec 32) (v826 : BitVec 32) :
    iprop((levAts L lv : sProp 𝕄) ∗ records m ρ ∗ SD m ρ 1 6 c)
      ⊢ wp frame (wpE (defs₀ (F := F)) 𝒱₀ (c : Thread nD τ) none) Set.univ
          (k0_part44 xM (Memref.isWhole_whole _) tM (Memref.isWhole_whole _) wM (Memref.isWhole_whole _) vM (Memref.isWhole_whole _) oM (Memref.isWhole_whole _) rM (Memref.isWhole_whole _) cc0_scratch1 cc0_scratch2 v784 v805 v826)
          (fun r => iprop(SD m ρ 1 9 c)) := by
  rw [k0_part44_eq_skeleton]; unfold k0_part44_skel
  simp only [semSignalWord, semWaitWord, Prog.lift, Prog.bind_op, Prog.bind_ret, Prog.pure_eq_ret, wp_deviceId]
  iintro ⟨#HL, #HR, HD⟩
  iapply (waitrecv_op m ρ c 1 6 (by decide) (by decide) (sR := oS 2 7) rfl) $$ [HD]
  · isplitr; · iexact HR
    iexact HD
  iintro HD
  iapply (waitrecv_op m ρ c 1 7 (by decide) (by decide) (sR := oS 2 8) rfl) $$ [HD]
  · isplitr; · iexact HR
    iexact HD
  iintro HD
  iapply (waitrecv_op m ρ c 1 8 (by decide) (by decide) (sR := oS 2 9) rfl) $$ [HD]
  · isplitr; · iexact HR
    iexact HD
  iintro HD
  rw [wp_ret]; imodintro
  iexact HD

/-- Part 45 of the body. -/
theorem part45_wp (c : Dev nD) (v847 : BitVec 32) (v868 : BitVec 32) (v889 : BitVec 32) :
    iprop((levAts L lv : sProp 𝕄) ∗ records m ρ ∗ SD m ρ 1 9 c)
      ⊢ wp frame (wpE (defs₀ (F := F)) 𝒱₀ (c : Thread nD τ) none) Set.univ
          (k0_part45 xM (Memref.isWhole_whole _) tM (Memref.isWhole_whole _) wM (Memref.isWhole_whole _) vM (Memref.isWhole_whole _) oM (Memref.isWhole_whole _) rM (Memref.isWhole_whole _) cc0_scratch1 cc0_scratch2 v847 v868 v889)
          (fun r => iprop(SD m ρ 1 11 c)) := by
  rw [k0_part45_eq_skeleton]; unfold k0_part45_skel
  simp only [semSignalWord, semWaitWord, Prog.lift, Prog.bind_op, Prog.bind_ret, Prog.pure_eq_ret, wp_deviceId]
  iintro ⟨#HL, #HR, HD⟩
  iapply (waitrecv_op m ρ c 1 9 (by decide) (by decide) (sR := oS 2 10) rfl) $$ [HD]
  · isplitr; · iexact HR
    iexact HD
  iintro HD
  iapply (waitrecv_op m ρ c 1 10 (by decide) (by decide) (sR := oS 2 11) rfl) $$ [HD]
  · isplitr; · iexact HR
    iexact HD
  iintro HD
  rw [wp_ret]; imodintro
  iexact HD

/-- Part 46 of the body. -/
theorem part46_wp (c : Dev nD) (v910 : BitVec 32) (v931 : BitVec 32) (v952 : BitVec 32) :
    iprop((levAts L lv : sProp 𝕄) ∗ records m ρ ∗ SD m ρ 1 11 c)
      ⊢ wp frame (wpE (defs₀ (F := F)) 𝒱₀ (c : Thread nD τ) none) Set.univ
          (k0_part46 xM (Memref.isWhole_whole _) tM (Memref.isWhole_whole _) wM (Memref.isWhole_whole _) vM (Memref.isWhole_whole _) oM (Memref.isWhole_whole _) rM (Memref.isWhole_whole _) cc0_scratch1 cc0_scratch2 v910 v931 v952)
          (fun r => iprop(SD m ρ 1 14 c)) := by
  rw [k0_part46_eq_skeleton]; unfold k0_part46_skel
  simp only [semSignalWord, semWaitWord, Prog.lift, Prog.bind_op, Prog.bind_ret, Prog.pure_eq_ret, wp_deviceId]
  iintro ⟨#HL, #HR, HD⟩
  iapply (waitrecv_op m ρ c 1 11 (by decide) (by decide) (sR := oS 2 12) rfl) $$ [HD]
  · isplitr; · iexact HR
    iexact HD
  iintro HD
  iapply (waitrecv_op m ρ c 1 12 (by decide) (by decide) (sR := oS 2 13) rfl) $$ [HD]
  · isplitr; · iexact HR
    iexact HD
  iintro HD
  iapply (waitrecv_op m ρ c 1 13 (by decide) (by decide) (sR := oS 2 14) rfl) $$ [HD]
  · isplitr; · iexact HR
    iexact HD
  iintro HD
  rw [wp_ret]; imodintro
  iexact HD

/-- Part 47 of the body. -/
theorem part47_wp (c : Dev nD) (Z : sProp 𝕄) (v1255 : BitVec 32) (c0_i32_1377 : BitVec 32) :
    iprop((levAts L lv : sProp 𝕄) ∗ records m ρ ∗ SD m ρ 1 14 c ∗ (SD m ρ 1 15 c -∗ (chunkPts c 1 (rem 15) (CA m ρ c) ∗ Z)) ∗ (((c : Thread nD τ).loc cc0_stg0_0) ↦{fullShare} xstg m ρ c) ∗ outPts m ρ c 2)
      ⊢ wp frame (wpE (defs₀ (F := F)) 𝒱₀ (c : Thread nD τ) none) Set.univ
          (k0_part47 xM (Memref.isWhole_whole _) tM (Memref.isWhole_whole _) wM (Memref.isWhole_whole _) vM (Memref.isWhole_whole _) oM (Memref.isWhole_whole _) rM (Memref.isWhole_whole _) cc0_scratch1 cc0_scratch2 (sc m ρ c) (sh m ρ c) v1255 c0_i32_1377)
          (fun r => iprop(⌜r = ⟨(k0_pay26 (cch m ρ c 1)), (k0_pay27 (cch m ρ c 1))⟩⌝ ∗ Z ∗ chunkPts c 1 (rem 15) (CA m ρ c) ∗ (((c : Thread nD τ).loc cc0_stg0_0) ↦{fullShare} xstg m ρ c) ∗ outPts m ρ c 3)) := by
  rw [k0_part47_eq_skeleton]; unfold k0_part47_skel
  simp only [semSignalWord, semWaitWord, Prog.lift, Prog.bind_op, Prog.bind_ret, Prog.pure_eq_ret, wp_deviceId]
  iintro ⟨#HL, #HR, HD, Hc, HX, Ho⟩
  iapply (waitrecv_op m ρ c 1 14 (by decide) (by decide) (sR := oS 2 15) rfl) $$ [HD]
  · isplitr; · iexact HR
    iexact HD
  iintro HD
  ihave Hs := Hc $$ HD
  icases Hs with ⟨Hch, HZ⟩
  iapply (chunk_load m ρ c 1 (rem 15)) $$ [Hch]
  · iexact Hch
  iintro Hch
  iapply (x_load m ρ c 2) $$ HX
  iintro HX
  iapply (out_load m ρ c 2 2) $$ Ho
  iintro %_ Ho
  iapply (out_store m ρ c 2 2 rfl rfl) $$ Ho
  iintro Ho
  rw [wp_ret]; imodintro
  isplitr
  · ipureintro; exact rfl
  isplitl [HZ]; · iexact HZ
  isplitl [Hch]; · iexact Hch
  isplitl [HX]; · iexact HX
  iexact Ho

/-- Part 48 of the body. -/
theorem part48_wp (c : Dev nD) :
    iprop((levAts L lv : sProp 𝕄) ∗ records m ρ ∗ (((c : Thread nD τ).loc cc0_stg0_0) ↦{fullShare} xstg m ρ c) ∗ outPts m ρ c 3 ∗ SC m ρ 1 0 0 c)
      ⊢ wp frame (wpE (defs₀ (F := F)) 𝒱₀ (c : Thread nD τ) none) Set.univ
          (k0_part48 xM (Memref.isWhole_whole _) tM (Memref.isWhole_whole _) wM (Memref.isWhole_whole _) vM (Memref.isWhole_whole _) oM (Memref.isWhole_whole _) rM (Memref.isWhole_whole _) cc0_scratch1 cc0_scratch2 (sc m ρ c) (sh m ρ c) (k0_pay26 (cch m ρ c 1)) (k0_pay27 (cch m ρ c 1)))
          (fun r => iprop((((c : Thread nD τ).loc cc0_stg0_0) ↦{fullShare} xstg m ρ c) ∗ outPts m ρ c 4 ∗ SC m ρ 1 2 0 c)) := by
  rw [k0_part48_eq_skeleton]; unfold k0_part48_skel
  simp only [semSignalWord, semWaitWord, Prog.lift, Prog.bind_op, Prog.bind_ret, Prog.pure_eq_ret, wp_deviceId]
  iintro ⟨#HL, #HR, HX, Ho, HC⟩
  iapply (x_load m ρ c 3) $$ HX
  iintro HX
  iapply (out_load m ρ c 3 3) $$ Ho
  iintro %_ Ho
  iapply (out_store m ρ c 3 3 rfl rfl) $$ Ho
  iintro Ho
  iapply (waitsend_op m ρ c 1 0 (by decide) (by decide) 0 (Or.inr rfl) (sS := oS 0 1) rfl) $$ [HC]
  · isplitr; · iexact HL
    isplitr; · iexact HR
    iexact HC
  iintro HC
  iapply (waitsend_op m ρ c 1 1 (by decide) (by decide) 0 (Or.inr rfl) (sS := oS 0 2) rfl) $$ [HC]
  · isplitr; · iexact HL
    isplitr; · iexact HR
    iexact HC
  iintro HC
  rw [wp_ret]; imodintro
  isplitl [HX]; · iexact HX
  isplitl [Ho]; · iexact Ho
  iexact HC

/-- Part 49 of the body. -/
theorem part49_wp (c : Dev nD) :
    iprop((levAts L lv : sProp 𝕄) ∗ records m ρ ∗ SC m ρ 1 2 0 c)
      ⊢ wp frame (wpE (defs₀ (F := F)) 𝒱₀ (c : Thread nD τ) none) Set.univ
          (k0_part49 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 1 5 0 c)) := by
  rw [k0_part49_eq_skeleton]; unfold k0_part49_skel
  simp only [semSignalWord, semWaitWord, Prog.lift, Prog.bind_op, Prog.bind_ret, Prog.pure_eq_ret, wp_deviceId]
  iintro ⟨#HL, #HR, HC⟩
  iapply (waitsend_op m ρ c 1 2 (by decide) (by decide) 0 (Or.inr rfl) (sS := oS 0 3) rfl) $$ [HC]
  · isplitr; · iexact HL
    isplitr; · iexact HR
    iexact HC
  iintro HC
  iapply (waitsend_op m ρ c 1 3 (by decide) (by decide) 0 (Or.inr rfl) (sS := oS 0 4) rfl) $$ [HC]
  · isplitr; · iexact HL
    isplitr; · iexact HR
    iexact HC
  iintro HC
  iapply (waitsend_op m ρ c 1 4 (by decide) (by decide) 0 (Or.inr rfl) (sS := oS 0 5) rfl) $$ [HC]
  · isplitr; · iexact HL
    isplitr; · iexact HR
    iexact HC
  iintro HC
  rw [wp_ret]; imodintro
  iexact HC

/-- Part 50 of the body. -/
theorem part50_wp (c : Dev nD) :
    iprop((levAts L lv : sProp 𝕄) ∗ records m ρ ∗ SC m ρ 1 5 0 c)
      ⊢ wp frame (wpE (defs₀ (F := F)) 𝒱₀ (c : Thread nD τ) none) Set.univ
          (k0_part50 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 1 8 0 c)) := by
  rw [k0_part50_eq_skeleton]; unfold k0_part50_skel
  simp only [semSignalWord, semWaitWord, Prog.lift, Prog.bind_op, Prog.bind_ret, Prog.pure_eq_ret, wp_deviceId]
  iintro ⟨#HL, #HR, HC⟩
  iapply (waitsend_op m ρ c 1 5 (by decide) (by decide) 0 (Or.inr rfl) (sS := oS 0 6) rfl) $$ [HC]
  · isplitr; · iexact HL
    isplitr; · iexact HR
    iexact HC
  iintro HC
  iapply (waitsend_op m ρ c 1 6 (by decide) (by decide) 0 (Or.inr rfl) (sS := oS 0 7) rfl) $$ [HC]
  · isplitr; · iexact HL
    isplitr; · iexact HR
    iexact HC
  iintro HC
  iapply (waitsend_op m ρ c 1 7 (by decide) (by decide) 0 (Or.inr rfl) (sS := oS 0 8) rfl) $$ [HC]
  · isplitr; · iexact HL
    isplitr; · iexact HR
    iexact HC
  iintro HC
  rw [wp_ret]; imodintro
  iexact HC

/-- Part 51 of the body. -/
theorem part51_wp (c : Dev nD) :
    iprop((levAts L lv : sProp 𝕄) ∗ records m ρ ∗ SC m ρ 1 8 0 c)
      ⊢ wp frame (wpE (defs₀ (F := F)) 𝒱₀ (c : Thread nD τ) none) Set.univ
          (k0_part51 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 1 11 0 c)) := by
  rw [k0_part51_eq_skeleton]; unfold k0_part51_skel
  simp only [semSignalWord, semWaitWord, Prog.lift, Prog.bind_op, Prog.bind_ret, Prog.pure_eq_ret, wp_deviceId]
  iintro ⟨#HL, #HR, HC⟩
  iapply (waitsend_op m ρ c 1 8 (by decide) (by decide) 0 (Or.inr rfl) (sS := oS 0 9) rfl) $$ [HC]
  · isplitr; · iexact HL
    isplitr; · iexact HR
    iexact HC
  iintro HC
  iapply (waitsend_op m ρ c 1 9 (by decide) (by decide) 0 (Or.inr rfl) (sS := oS 0 10) rfl) $$ [HC]
  · isplitr; · iexact HL
    isplitr; · iexact HR
    iexact HC
  iintro HC
  iapply (waitsend_op m ρ c 1 10 (by decide) (by decide) 0 (Or.inr rfl) (sS := oS 0 11) rfl) $$ [HC]
  · isplitr; · iexact HL
    isplitr; · iexact HR
    iexact HC
  iintro HC
  rw [wp_ret]; imodintro
  iexact HC

/-- Part 52 of the body. -/
theorem part52_wp (c : Dev nD) :
    iprop((levAts L lv : sProp 𝕄) ∗ records m ρ ∗ SC m ρ 1 11 0 c)
      ⊢ wp frame (wpE (defs₀ (F := F)) 𝒱₀ (c : Thread nD τ) none) Set.univ
          (k0_part52 xM (Memref.isWhole_whole _) tM (Memref.isWhole_whole _) wM (Memref.isWhole_whole _) vM (Memref.isWhole_whole _) oM (Memref.isWhole_whole _) rM (Memref.isWhole_whole _) cc0_scratch1 cc0_scratch2 )
          (fun r => iprop(SC m ρ 1 14 0 c)) := by
  rw [k0_part52_eq_skeleton]; unfold k0_part52_skel
  simp only [semSignalWord, semWaitWord, Prog.lift, Prog.bind_op, Prog.bind_ret, Prog.pure_eq_ret, wp_deviceId]
  iintro ⟨#HL, #HR, HC⟩
  iapply (waitsend_op m ρ c 1 11 (by decide) (by decide) 0 (Or.inr rfl) (sS := oS 0 12) rfl) $$ [HC]
  · isplitr; · iexact HL
    isplitr; · iexact HR
    iexact HC
  iintro HC
  iapply (waitsend_op m ρ c 1 12 (by decide) (by decide) 0 (Or.inr rfl) (sS := oS 0 13) rfl) $$ [HC]
  · isplitr; · iexact HL
    isplitr; · iexact HR
    iexact HC
  iintro HC
  iapply (waitsend_op m ρ c 1 13 (by decide) (by decide) 0 (Or.inr rfl) (sS := oS 0 14) rfl) $$ [HC]
  · isplitr; · iexact HL
    isplitr; · iexact HR
    iexact HC
  iintro HC
  rw [wp_ret]; imodintro
  iexact HC

end Cert.KernelIdeal.Hand
-- ==== Proof.MovesKernelIdeal.lean ====
/-
How the states of the exchange pass into one another between the parts of the body: the rights that came with the barrier
become the rights of the transfers, the credit of the transfers becomes what the waits spend, and the slots waited for become
the chunk that is loaded.
-/
module

public import proofs.«01_k».proof.Proof.PartsKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A conjunction over a finite set of separating pairs. -/
theorem big_sep {I : Type} (s : Finset I) (Φ Ψ : I → sProp 𝕄) : bigSep s (fun i => iprop(Φ i ∗ Ψ i)) = iprop(bigSep s Φ ∗ bigSep s Ψ) := bigSep_sep' s Φ Ψ

theorem big_empty {I : Type} (Φ : I → sProp 𝕄) : (bigSep (∅ : Finset I) Φ) = iprop(emp) := bigSep_empty

/-- Each summand transformed. -/
theorem big_mono {I : Type} {s : Finset I} {Φ Ψ : I → sProp 𝕄} (h : ∀ i ∈ s, Φ i ⊢ Ψ i) : bigSep s Φ ⊢ bigSep s Ψ := bigSep_mono h

/-- Nothing, once per summand. -/
theorem big_emp {I : Type} [DecidableEq I] (s : Finset I) : (iprop(emp) : sProp 𝕄) ⊢ bigSep s fun _ => iprop(emp) := by
  induction s using Finset.induction_on with
  | empty => rw [big_empty]
  | insert a s ha ih =>
    rw [big_insert ha]
    iintro H
    isplitr; · iempintro
    iapply ih; iexact H

/-- Each summand transformed with something known for good. -/
theorem big_known {I : Type} [DecidableEq I] {s : Finset I} {P : sProp 𝕄} [BI.Persistent P] {Φ Ψ : I → sProp 𝕄}
    (h : ∀ i ∈ s, iprop(P ∗ Φ i) ⊢ Ψ i) : iprop(P ∗ bigSep s Φ) ⊢ bigSep s Ψ := by
  induction s using Finset.induction_on with
  | empty => rw [big_empty, big_empty]; iintro ⟨-, -⟩; iempintro
  | insert a s ha ih =>
    rw [big_insert ha, big_insert ha]
    iintro ⟨#HP, H1, H2⟩
    isplitl [H1]
    · iapply (h a (Finset.mem_insert_self a s))
      isplitr; · iexact HP
      iexact H1
    · iapply (ih fun i hi => h i (Finset.mem_insert_of_mem hi))
      isplitr; · iexact HP
      iexact H2

/-- The distances 1 to 15, as the launch indexes them. -/
theorem big_dist (Φ : ℕ → sProp 𝕄) : bigSep (Finset.Ioc 0 15) Φ = bigSep Finset.univ fun i : Fin 15 => Φ (i.val + 1) := by
  have h : Finset.Ioc 0 15 = (Finset.univ : Finset (Fin 15)).map ⟨fun i => i.val + 1, fun i j hij => Fin.ext (Nat.succ.inj hij)⟩ := by decide
  rw [h]; exact bigSep_map _

/-- Distance `d` one way round is distance `16 - d` the other way. -/
theorem big_flip (Φ : ℕ → sProp 𝕄) : bigSep (Finset.Ioc 0 15) Φ = bigSep (Finset.Ioc 0 15) fun d => Φ (16 - d) := by
  rw [big_dist, big_dist, bigSep_univ_equiv (Fin.revPerm : Fin 15 ≃ Fin 15) (fun i : Fin 15 => Φ (i.val + 1))]
  refine bigSep_congr fun i _ => ?_
  show Φ ((Fin.rev i).val + 1) = Φ (16 - (i.val + 1))
  rw [Fin.val_rev]
  congr 1
  have := i.isLt
  omega

/-- Before the first signal. -/
theorem SA_start (c : Dev nD) (O : CellTallies nD τ sig Unit) (f₀ f₁ : CBuf F) :
    iprop((∃ W, owes (c : Thread nD τ) (O + OB 0 c) W)
        ∗ (bigSep (Finset.Ioc 0 15) fun d => dutyTok ER (barCell (pl c d)) 0 (16 - d))
        ∗ (bigSep (Finset.Ioc 0 15) fun d => slotPts c 0 d fullShare f₀)
        ∗ bigSep (Finset.Ioc 0 15) fun d => slotPts c 1 d fullShare f₁)
      ⊢ (SA 0 O c : sProp 𝕄) := by
  unfold SA
  rw [big_flip (fun d => slotPts c 0 d fullShare f₀), big_flip (fun d => slotPts c 1 d fullShare f₁)]
  iintro ⟨HO, Ht, H0, H1⟩
  isplitl [HO]; · iexact HO
  ihave H := (Entails.of_eq (big_sep (Finset.Ioc 0 15) (fun d => slotPts c 0 (16 - d) fullShare f₀) (fun d => slotPts c 1 (16 - d) fullShare f₁)).symm) $$ [H0 H1]
  · isplitl [H0]; · iexact H0
    iexact H1
  ihave H := (Entails.of_eq (big_sep (Finset.Ioc 0 15) (fun d => dutyTok ER (barCell (pl c d)) 0 (16 - d)) (fun d => iprop(slotPts c 0 (16 - d) fullShare f₀ ∗ slotPts c 1 (16 - d) fullShare f₁))).symm) $$ [Ht H]
  · isplitl [Ht]; · iexact Ht
    iexact H
  iapply (big_mono (F := F) fun d _ => show iprop(dutyTok ER (barCell (pl c d)) 0 (16 - d) ∗ slotPts c 0 (16 - d) fullShare f₀ ∗ slotPts c 1 (16 - d) fullShare f₁) ⊢ _ from by
    iintro ⟨Ht, H0, H1⟩
    isplitl [Ht]; · iexact Ht
    isplitl [H0]; · iexists f₀; iexact H0
    iexists f₁; iexact H1)
  iexact H

/-- What came with the barrier, chunk by chunk. -/
theorem pay_split (c : Dev nD) : (bigSep (Finset.Ioc 0 15) fun e => barPay c e)
    ⊢ (iprop((bigSep (Finset.Ioc 0 15) fun e => iprop(∃ f : CBuf F, slotPts (pl c e) 0 e fullShare f))
        ∗ bigSep (Finset.Ioc 0 15) fun e => iprop(∃ f : CBuf F, slotPts (pl c e) 1 e fullShare f)) : sProp 𝕄) := by
  rw [← big_sep]; exact BI.Entails.refl _

/-- Before the first transfer of chunk `k`. -/
theorem SB_start (c : Dev nD) (k : ℕ) (O : CellTallies nD τ sig Unit) :
    iprop((∃ W, owes (c : Thread nD τ) (O + OR k 0 c) W) ∗ slotPts c k 0 fullShare (CA m ρ c)
        ∗ (bigSep (Finset.Ioc 0 15) fun e => iprop(∃ f : CBuf F, slotPts (pl c e) k e fullShare f))
        ∗ (bigSep (Finset.Ioc 0 15) fun d => dutyTok ER (oCell c 0 d) k 0)
        ∗ (bigSep (Finset.Ioc 0 15) fun d => reached ER (oCell c 0 d) k)
        ∗ bigSep (Finset.Ioc 0 15) fun d => dutyTok ER (oCell (pl c d) (1 + k) d) 0 0)
      ⊢ (SB m ρ k 0 O c : sProp 𝕄) := by
  unfold SB
  rw [Finset.Ioc_self, big_empty, big_sep, big_sep, big_sep]
  iintro ⟨HO, Hs, Hp, Ht, Hr, Hv⟩
  isplitl [HO]; · iexact HO
  isplitl [Hs]; · iexact Hs
  isplitl
  · isplitl [Hp]; · iexact Hp
    isplitl [Ht]; · iexact Ht
    isplitl [Hr]; · iexact Hr
    iexact Hv
  iempintro

/-- After the last transfer of chunk `k`. -/
theorem SB_end (c : Dev nD) (k : ℕ) (O : CellTallies nD τ sig Unit) :
    (SB m ρ k 15 O c : sProp 𝕄) ⊢ iprop((∃ W, owes (c : Thread nD τ) O W) ∗ slotPts c k 0 (rem 15) (CA m ρ c)
      ∗ bigSep (Finset.Ioc 0 15) fun d => cred (tallyAt (oCell c 0 d) () N)) := by
  unfold SB
  rw [OR_end, add_zero]
  iintro ⟨HO, Hs, -, Hc⟩
  isplitl [HO]; · iexact HO
  isplitl [Hs]; · iexact Hs
  iexact Hc

/-- Before the first wait for the sends of chunk `k`. -/
theorem SC_start (c : Dev nD) (k : ℕ) (O : CellTallies nD τ sig Unit) :
    iprop((∃ W, owes (c : Thread nD τ) O W) ∗ (bigSep (Finset.Ioc 0 15) fun d => cred (tallyAt (oCell c 0 d) () N))
        ∗ bigSep (Finset.Ioc 0 15) fun d => atPos ER (oCell c 0 d) k ∅ 0)
      ⊢ (SC m ρ k 0 O c : sProp 𝕄) := by
  unfold SC
  rw [Finset.Ioc_self, big_empty, big_sep]
  iintro ⟨HO, Hc, Ha⟩
  isplitl [HO]; · iexact HO
  isplitl
  · isplitl [Hc]; · iexact Hc
    iexact Ha
  iempintro

/-- After the last of them. -/
theorem SC_end (c : Dev nD) (k : ℕ) (O : CellTallies nD τ sig Unit) :
    (SC m ρ k 15 O c : sProp 𝕄) ⊢ iprop((∃ W, owes (c : Thread nD τ) O W)
      ∗ (bigSep (Finset.Ioc 0 15) fun d => slotPts c k 0 (piece d) (CA m ρ c))
      ∗ (bigSep (Finset.Ioc 0 15) fun d => atPos ER (oCell c 0 d) (k + 1) ∅ 0)
      ∗ bigSep (Finset.Ioc 0 15) fun d => reached ER (oCell c 0 d) (k + 1)) := by
  unfold SC
  rw [big_sep (Finset.Ioc 0 15) (fun d => slotPts c k 0 (piece d) (CA m ρ c)), big_sep (Finset.Ioc 0 15) (fun d => atPos ER (oCell c 0 d) (k + 1) ∅ 0)]
  iintro ⟨HO, -, Hp, Ha, Hr⟩
  isplitl [HO]; · iexact HO
  isplitl [Hp]; · iexact Hp
  isplitl [Ha]; · iexact Ha
  iexact Hr

/-- Before the first wait for a landing of chunk `k`. -/
theorem SD_start (c : Dev nD) (k : ℕ) :
    iprop((∃ W, owes (c : Thread nD τ) 0 W) ∗ (bigSep (Finset.Ioc 0 15) fun d => cred (tallyAt (oCell c (1 + k) d) () N))
        ∗ bigSep (Finset.Ioc 0 15) fun d => atPos ER (oCell c (1 + k) d) 0 ∅ 0)
      ⊢ (SD m ρ k 0 c : sProp 𝕄) := by
  unfold SD
  rw [Finset.Ioc_self, big_empty, big_sep]
  iintro ⟨HO, Hc, Ha⟩
  isplitl [HO]; · iexact HO
  isplitl
  · isplitl [Hc]; · iexact Hc
    iexact Ha
  iempintro

/-- After the last of them. -/
theorem SD_end (c : Dev nD) (k : ℕ) :
    (SD m ρ k 15 c : sProp 𝕄) ⊢ iprop((∃ W, owes (c : Thread nD τ) 0 W)
      ∗ (bigSep (Finset.Ioc 0 15) fun d => slotPts c k d fullShare (CA m ρ c))
      ∗ bigSep (Finset.Ioc 0 15) fun d => atPos ER (oCell c (1 + k) d) 1 ∅ 0) := by
  unfold SD
  rw [big_sep (Finset.Ioc 0 15) (fun d => slotPts c k d fullShare (CA m ρ c))]
  iintro ⟨HO, -, Hp, Ha⟩
  isplitl [HO]; · iexact HO
  isplitl [Hp]; · iexact Hp
  iexact Ha

/-- Chunk 1 as it is loaded, while its own slot's pieces are still out. -/
theorem chunk_lent (c : Dev nD) (f : CBuf F) :
    iprop(slotPts c 1 0 (rem 15) f ∗ bigSep (Finset.Ioc 0 15) fun d => slotPts c 1 d fullShare f)
      ⊢ (iprop(chunkPts c 1 (rem 15) f ∗ (chunkPts c 1 (rem 15) f
          -∗ (slotPts c 1 0 (rem 15) f ∗ bigSep (Finset.Ioc 0 15) fun d => slotPts c 1 d fullShare f))) : sProp 𝕄) := by
  rw [chunk_slots]
  iintro ⟨H0, H⟩
  ihave H := (big_mono (F := F) (s := Finset.Ioc 0 15) fun d _ => slot_weaken c 1 d f 15) $$ H
  ihave H := (Entails.of_eq (big_sep (Finset.Ioc 0 15) (fun d => slotPts c 1 d (rem 15) f) (fun d => iprop(slotPts c 1 d (rem 15) f -∗ slotPts c 1 d fullShare f)))) $$ H
  icases H with ⟨H, Hw⟩
  isplitl [H0 H]
  · isplitl [H0]; · iexact H0
    iexact H
  iintro ⟨H0, H⟩
  isplitl [H0]; · iexact H0
  ihave H := (Entails.of_eq (big_sep (Finset.Ioc 0 15) (fun d => slotPts c 1 d (rem 15) f) (fun d => iprop(slotPts c 1 d (rem 15) f -∗ slotPts c 1 d fullShare f))).symm) $$ [H Hw]
  · isplitl [H]; · iexact H
    iexact Hw
  iapply (big_mono (F := F) (s := Finset.Ioc 0 15) fun d _ => show iprop(slotPts c 1 d (rem 15) f ∗ (slotPts c 1 d (rem 15) f -∗ slotPts c 1 d fullShare f)) ⊢ slotPts c 1 d fullShare f from by
    iintro ⟨H, Hw⟩; iapply Hw; iexact H)
  iexact H

/-- The staged result before the first store. -/
theorem out_start (c : Dev nD) (f : (cc0_stg4_0 : Ref sig .tc).ty.Contents (Elt F)) :
    ((((c : Thread nD τ).loc cc0_stg4_0) ↦{fullShare} f) : sProp 𝕄) ⊢ outPts m ρ c 0 := by
  unfold outPts
  iintro H
  iexists f
  isplitr; · ipureintro; exact fun i h => absurd h (Nat.not_lt_zero _)
  iexact H

/-! ## The cells close -/

/-- The barrier cell after its one round. -/
theorem close_bar (c : Dev nD) : iprop(records m ρ ∗ atPos ER (barCell c) 1 ∅ 0) ⊢ (iprop(|={Set.univ}=> semVal (barCell c) 0) : sProp 𝕄) := by
  iintro ⟨#HR, Ha⟩
  ihave HI := (inv_bar m ρ c) $$ HR
  icases HI with ⟨%κ, #HI⟩
  iapply (Rounds.cell_close ER (Rd m ρ) (Set.mem_univ κ) (fun h => h) (R := 1) (duties_bar_later m ρ c))
  isplitr; · iexact HI
  iexact Ha

/-- The send cells after their two rounds. -/
theorem close_send (c : Dev nD) : iprop(records m ρ ∗ bigSep (Finset.Ioc 0 15) fun d => atPos ER (oCell c 0 d) 2 ∅ 0)
    ⊢ (iprop(|={Set.univ}=> bigSep (Finset.Ioc 0 15) fun d => semVal (oCell c 0 d) 0) : sProp 𝕄) := by
  refine (big_known (Ψ := fun d => iprop(|={Set.univ}=> semVal (oCell c 0 d) 0)) fun d hd => ?_).trans (bigSep_fupd _ _)
  rw [Finset.mem_Ioc] at hd
  have h1 : 1 ≤ d := by omega
  iintro ⟨#HR, Ha⟩
  ihave HI := (inv_o m ρ c 0 d (by decide) h1 hd.2) $$ HR
  icases HI with ⟨%κ, #HI⟩
  iapply (Rounds.cell_close ER (Rd m ρ) (Set.mem_univ κ) (fun h => h) (R := 2) (duties_send_later m ρ c d h1 hd.2))
  isplitr; · iexact HI
  iexact Ha

/-- The receive cells of chunk `k` after their one round. -/
theorem close_recv (c : Dev nD) (k : ℕ) (hk : k < 2) : iprop(records m ρ ∗ bigSep (Finset.Ioc 0 15) fun d => atPos ER (oCell c (1 + k) d) 1 ∅ 0)
    ⊢ (iprop(|={Set.univ}=> bigSep (Finset.Ioc 0 15) fun d => semVal (oCell c (1 + k) d) 0) : sProp 𝕄) := by
  refine (big_known (Ψ := fun d => iprop(|={Set.univ}=> semVal (oCell c (1 + k) d) 0)) fun d hd => ?_).trans (bigSep_fupd _ _)
  rw [Finset.mem_Ioc] at hd
  have h1 : 1 ≤ d := by omega
  have h3 : 1 + k < 3 := by omega
  iintro ⟨#HR, Ha⟩
  ihave HI := (inv_o m ρ c (1 + k) d h3 h1 hd.2) $$ HR
  icases HI with ⟨%κ, #HI⟩
  iapply (Rounds.cell_close ER (Rd m ρ) (Set.mem_univ κ) (fun h => h) (R := 1) (duties_recv_later m ρ c k d hk h1 hd.2))
  isplitr; · iexact HI
  iexact Ha

end Cert.KernelIdeal.Hand

end
-- ==== Proof.BodyKernelIdeal.lean ====
/-
The body run from its start to its end at a symbolic device, part after part.
-/
module

public import proofs.«01_k».proof.Proof.MovesKernelIdeal

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One statement's run before the rest's. -/
theorem seq_wp (c : Dev nD) {α β : Type} {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ wp frame (wpE (defs₀ (F := F)) 𝒱₀ (c : Thread nD τ) none) Set.univ p Q) :
    P ⊢ iprop((∀ a, Q a -∗ wp frame (wpE (defs₀ (F := F)) 𝒱₀ (c : Thread nD τ) none) Set.univ (k a) R)
      -∗ wp frame (wpE (defs₀ (F := F)) 𝒱₀ (c : Thread nD τ) none) Set.univ (p >>= k) R) := by
  have hb : wp frame (wpE (defs₀ (F := F)) 𝒱₀ (c : Thread nD τ) none) Set.univ (p >>= k) R
      = wp frame (wpE (defs₀ (F := F)) 𝒱₀ (c : Thread nD τ) none) Set.univ p
        (fun a => wp frame (wpE (defs₀ (F := F)) 𝒱₀ (c : Thread nD τ) none) Set.univ (k a) R) := wp_bind ..
  rw [hb]
  exact h.trans (wp_wand _ _ _)

/-- What a device starts from: positions at round 0, the duties it pays, and the credit of what it is sent. -/
def linear (c : Dev nD) : sProp 𝕄 :=
  iprop(atPos ER (barCell c) 0 ∅ 0
    ∗ (bigSep (Finset.Ioc 0 15) fun d => atPos ER (oCell c 0 d) 0 ∅ 0)
    ∗ (bigSep (Finset.Ioc 0 15) fun d => atPos ER (oCell c (1 + 0) d) 0 ∅ 0)
    ∗ (bigSep (Finset.Ioc 0 15) fun d => atPos ER (oCell c (1 + 1) d) 0 ∅ 0)
    ∗ (bigSep (Finset.Ioc 0 15) fun d => dutyTok ER (barCell (pl c d)) 0 (16 - d))
    ∗ (bigSep (Finset.Ioc 0 15) fun d => dutyTok ER (oCell c 0 d) 0 0)
    ∗ (bigSep (Finset.Ioc 0 15) fun d => dutyTok ER (oCell c 0 d) 1 0)
    ∗ (bigSep (Finset.Ioc 0 15) fun d => dutyTok ER (oCell (pl c d) (1 + 0) d) 0 0)
    ∗ bigSep (Finset.Ioc 0 15) fun d => dutyTok ER (oCell (pl c d) (1 + 1) d) 0 0)

/-- The credit a device is owed at launch. -/
def credits (c : Dev nD) : sProp 𝕄 :=
  iprop(cred (tallyAt (barCell c) () 15)
    ∗ (bigSep (Finset.Ioc 0 15) fun d => cred (tallyAt (oCell c (1 + 0) d) () N))
    ∗ bigSep (Finset.Ioc 0 15) fun d => cred (tallyAt (oCell c (1 + 1) d) () N))

/-- The counters a device's cells are left at. -/
def zeros (c : Dev nD) : sProp 𝕄 :=
  iprop(semVal (barCell c) 0
    ∗ (bigSep (Finset.Ioc 0 15) fun d => semVal (oCell c 0 d) 0)
    ∗ (bigSep (Finset.Ioc 0 15) fun d => semVal (oCell c (1 + 0) d) 0)
    ∗ bigSep (Finset.Ioc 0 15) fun d => semVal (oCell c (1 + 1) d) 0)

/-- The four staged inputs. -/
def inputs (c : Dev nD) : sProp 𝕄 :=
  iprop((((c : Thread nD τ).loc cc0_stg0_0) ↦{fullShare} xstg m ρ c) ∗ (((c : Thread nD τ).loc cc0_stg1_0) ↦{fullShare} tstg m ρ c)
    ∗ (((c : Thread nD τ).loc cc0_stg2_0) ↦{fullShare} wstg m ρ c) ∗ (((c : Thread nD τ).loc cc0_stg3_0) ↦{fullShare} vstg m ρ c))

set_option maxHeartbeats 4000000 in
set_option maxRecDepth 65536 in
/-- The body: from what a device starts with to the result, the communication buffer as it is to be and every cell closed. -/
theorem body_wp (c : Dev nD) :
    iprop((levAts L lv : sProp 𝕄) ∗ records m ρ ∗ linear c ∗ credits c ∗ (∃ f : CBuf F, (((c : Thread nD τ).loc cc0_scratch0) ↦{fullShare} f))
        ∗ (∃ W, owes (c : Thread nD τ) (O₀ c) W) ∗ inputs m ρ c ∗ ∃ f : (cc0_stg4_0 : Ref sig .tc).ty.Contents (Elt F), (((c : Thread nD τ).loc cc0_stg4_0) ↦{fullShare} f))
      ⊢ wp frame (wpE (defs₀ (F := F)) 𝒱₀ (c : Thread nD τ) none) Set.univ
          (cc0_body xM (Memref.isWhole_whole _) tM (Memref.isWhole_whole _) wM (Memref.isWhole_whole _) vM (Memref.isWhole_whole _) oM (Memref.isWhole_whole _) rM (Memref.isWhole_whole _) cc0_scratch1 cc0_scratch2)
          (fun _ => iprop((∃ W, owes (c : Thread nD τ) 0 W) ∗ zeros c ∗ (((c : Thread nD τ).loc cc0_scratch0) ↦{fullShare} CA m ρ c) ∗ inputs m ρ c
        ∗ (((c : Thread nD τ).loc cc0_stg4_0) ↦{fullShare} outAt m ρ c))) := by
  rw [cc0_body_eq_skeleton]; unfold cc0_body_skel
  unfold linear credits inputs
  iintro ⟨#HL, #HR, ⟨Hat, HaS, HaV0, HaV1, HtB, HtS0, HtS1, HtV0, HtV1⟩, ⟨Hcb, HcV0, HcV1⟩, ⟨%f0, Hbuf⟩, HO, ⟨HX, HT, HW, HV⟩, ⟨%g0, Hout⟩⟩
  ihave Hch := (buf_chunks c fullShare f0).1 $$ Hbuf
  rw [chunk_slots, chunk_slots]
  icases Hch with ⟨⟨H00, H0⟩, H10, H1⟩
  ihave HA := (SA_start c (OR 1 0 c + OR 0 0 c) f0 f0) $$ [HO HtB H0 H1]
  · isplitl [HO]; · iexact HO
    isplitl [HtB]; · iexact HtB
    isplitl [H0]; · iexact H0
    iexact H1
  ihave Hst := (stat_start m ρ c 0 f0) $$ [H00]
  · iexact H00
  ihave Hst1 := (stat_start m ρ c 1 f0) $$ [H10]
  · iexact H10
  ihave Ho := (out_start m ρ c g0) $$ Hout
  ihave #HrS := (show records (F := F) m ρ ⊢ (bigSep (Finset.Ioc 0 15) fun d => reached ER (oCell c 0 d) 0 : sProp 𝕄) from
    (show records (F := F) m ρ ⊢ iprop(records m ρ ∗ bigSep (Finset.Ioc 0 15) fun _ => iprop(emp)) from by
      iintro #H; isplitr; · iexact H
      iapply (big_emp (F := F) (Finset.Ioc 0 15)); iempintro).trans (big_known fun d hd => by
      rw [Finset.mem_Ioc] at hd
      have h1 : 1 ≤ d := by omega
      iintro ⟨#H, -⟩
      iapply (reached_o m ρ c 0 d (by decide) h1 hd.2); iexact H)) $$ HR
  iapply (seq_wp c (part1_wp m ρ c)) $$ [HA]
  · isplitr; · iexact HL
    isplitr; · iexact HR
    iexact HA
  iintro %r ⟨%hr, HA⟩
  obtain ⟨v2, v30, c16_i32_18, v31, rfl⟩ := hr
  dsimp only
  iapply (seq_wp c (part2_wp m ρ c v2 v30 c16_i32_18 v31)) $$ [HA]
  · isplitr; · iexact HL
    isplitr; · iexact HR
    iexact HA
  iintro %r HA
  obtain ⟨v59, v64, v65⟩ := r
  dsimp only
  iapply (seq_wp c (part3_wp m ρ c v2 v59 v64 v65)) $$ [HA]
  · isplitr; · iexact HL
    isplitr; · iexact HR
    iexact HA
  iintro %r HA
  obtain ⟨v95, c16_i32_63, v96⟩ := r
  dsimp only
  iapply (seq_wp c (part4_wp m ρ c v2 v95 c16_i32_63 v96)) $$ [HA]
  · isplitr; · iexact HL
    isplitr; · iexact HR
    iexact HA
  iintro %r HA
  obtain ⟨v124, v129, v130⟩ := r
  dsimp only
  iapply (seq_wp c (part5_wp m ρ c v2 v124 v129 v130)) $$ [HA]
  · isplitr; · iexact HL
    isplitr; · iexact HR
    iexact HA
  iintro %r HA
  obtain ⟨v160, c16_i32_108, v161⟩ := r
  dsimp only
  iapply (seq_wp c (part6_wp m ρ c v2 v160 c16_i32_108 v161)) $$ [HA]
  · isplitr; · iexact HL
    isplitr; · iexact HR
    iexact HA
  iintro %r HA
  obtain ⟨v189, v194, v195⟩ := r
  dsimp only
  iapply (seq_wp c (part7_wp m ρ c v189 v194 v195)) $$ [HA Hcb Hat HX Hst]
  · isplitr; · iexact HL
    isplitr; · iexact HR
    isplitl [HA]; · iexact HA
    isplitl [Hcb]; · iexact Hcb
    isplitl [Hat]; · iexact Hat
    isplitl [HX]; · iexact HX
    iexact Hst
  iintro %r ⟨%hr, HO, Hat, Hpay, HX, Hst⟩
  subst hr
  dsimp only
  ihave Hp := (pay_split c) $$ Hpay
  icases Hp with ⟨Hp0, Hp1⟩
  iapply (seq_wp c (part8_wp m ρ c v2)) $$ [Hst HO Hp0 HtS0 HtV0]
  · isplitr; · iexact HL
    isplitr; · iexact HR
    isplitl [Hst]; · iexact Hst
    iintro H
    iapply (SB_start m ρ c 0 (OR 1 0 c))
    isplitl [HO]; · iexact HO
    isplitl [H]; · iexact H
    isplitl [Hp0]; · iexact Hp0
    isplitl [HtS0]; · iexact HtS0
    isplitr; · iexact HrS
    iexact HtV0
  iintro %r HB
  obtain ⟨v231, v244, v245, v250⟩ := r
  dsimp only
  iapply (seq_wp c (part9_wp m ρ c v2 v244 v245 v250)) $$ [HB]
  · isplitr; · iexact HL
    isplitr; · iexact HR
    iexact HB
  iintro %r HB
  obtain ⟨v252, v273⟩ := r
  dsimp only
  iapply (seq_wp c (part10_wp m ρ c v2)) $$ [HB]
  · isplitr; · iexact HL
    isplitr; · iexact HR
    iexact HB
  iintro %r HB
  obtain ⟨v294, v307, v308, v309⟩ := r
  dsimp only
  iapply (seq_wp c (part11_wp m ρ c v2 v307 v308 v309)) $$ [HB]
  · isplitr; · iexact HL
    isplitr; · iexact HR
    iexact HB
  iintro %r HB
  obtain ⟨v315, v336, v337, c0_i32_273⟩ := r
  dsimp only
  iapply (seq_wp c (part12_wp m ρ c v2 v337 c0_i32_273)) $$ [HB]
  · isplitr; · iexact HL
    isplitr; · iexact HR
    iexact HB
  iintro %r HB
  obtain ⟨v357, v368, c16_i32_299, c0_i32_300⟩ := r
  dsimp only
  iapply (seq_wp c (part13_wp m ρ c v2 v368 c16_i32_299 c0_i32_300)) $$ [HB]
  · isplitr; · iexact HL
    isplitr; · iexact HR
    iexact HB
  iintro %r HB
  obtain ⟨v378, v399⟩ := r
  dsimp only
  iapply (seq_wp c (part14_wp m ρ c v2 v399)) $$ [HB]
  · isplitr; · iexact HL
    isplitr; · iexact HR
    iexact HB
  iintro %v420 HB
  iapply (seq_wp c (part15_wp m ρ c v2)) $$ [HB]
  · isplitr; · iexact HL
    isplitr; · iexact HR
    iexact HB
  iintro %r HB
  obtain ⟨v441, v454, v455, v460⟩ := r
  dsimp only
  iapply (seq_wp c (part16_wp m ρ c v2 v454 v455 v460)) $$ [HB]
  · isplitr; · iexact HL
    isplitr; · iexact HR
    iexact HB
  iintro %r HB
  obtain ⟨v462, v483⟩ := r
  dsimp only
  iapply (seq_wp c (part17_wp m ρ c v2)) $$ [HB]
  · isplitr; · iexact HL
    isplitr; · iexact HR
    iexact HB
  iintro %r HB
  obtain ⟨v504, v517, v518, v519⟩ := r
  dsimp only
  iapply (seq_wp c (part18_wp m ρ c v517 v518 v519)) $$ [HB HX Hst1]
  · isplitr; · iexact HL
    isplitr; · iexact HR
    isplitl [HB]; · iexact HB
    isplitl [HX]; · iexact HX
    iexact Hst1
  iintro %v525 ⟨HB, HX, Hst1⟩
  ihave He := (SB_end m ρ c 0 (OR 1 0 c)) $$ HB
  icases He with ⟨HO, Hrem0, Hcr⟩
  ihave HC := (SC_start m ρ c 0 (OR 1 0 c)) $$ [HO Hcr HaS]
  · isplitl [HO]; · iexact HO
    isplitl [Hcr]; · iexact Hcr
    iexact HaS
  iapply (seq_wp c (part19_wp m ρ c)) $$ [HX Hst1 HC]
  · isplitr; · iexact HL
    isplitr; · iexact HR
    isplitl [HX]; · iexact HX
    isplitl [Hst1]; · iexact Hst1
    iexact HC
  iintro %r ⟨HX, Hst1, HC⟩
  iapply (seq_wp c (part20_wp m ρ c)) $$ [HC]
  · isplitr; · iexact HL
    isplitr; · iexact HR
    iexact HC
  iintro %r HC
  iapply (seq_wp c (part21_wp m ρ c)) $$ [HC]
  · isplitr; · iexact HL
    isplitr; · iexact HR
    iexact HC
  iintro %r HC
  iapply (seq_wp c (part22_wp m ρ c)) $$ [HC]
  · isplitr; · iexact HL
    isplitr; · iexact HR
    iexact HC
  iintro %r HC
  iapply (seq_wp c (part23_wp m ρ c)) $$ [HC]
  · isplitr; · iexact HL
    isplitr; · iexact HR
    iexact HC
  iintro %r HC
  ihave Hs1 := (stat_done m ρ c 1) $$ [Hst1]
  · iexact Hst1
  iapply (seq_wp c (part24_wp m ρ c iprop((bigSep (Finset.Ioc 0 15) fun d => slotPts c 0 0 (piece d) (CA m ρ c)) ∗ bigSep (Finset.Ioc 0 15) fun d => atPos ER (oCell c 0 d) 1 ∅ 0) v2)) $$ [HC Hs1 Hp1 HtS1 HtV1]
  · isplitr; · iexact HL
    isplitr; · iexact HR
    isplitl [HC]; · iexact HC
    iintro H
    ihave He := (SC_end m ρ c 0 (OR 1 0 c)) $$ H
    icases He with ⟨HO, Hpc, HaS, HrS1⟩
    isplitl [HO Hs1 Hp1 HtS1 HtV1 HrS1]
    · iapply (SB_start m ρ c 1 0)
      isplitl [HO]; · rw [zero_add]; iexact HO
      isplitl [Hs1]; · iexact Hs1
      isplitl [Hp1]; · iexact Hp1
      isplitl [HtS1]; · iexact HtS1
      isplitl [HrS1]; · iexact HrS1
      iexact HtV1
    isplitl [Hpc]; · iexact Hpc
    iexact HaS
  iintro %r ⟨⟨Hpc0, HaS⟩, HB⟩
  obtain ⟨v658, v671, v672, c0_i32_685⟩ := r
  dsimp only
  iapply (seq_wp c (part25_wp m ρ c v2 v671 v672 c0_i32_685)) $$ [HB]
  · isplitr; · iexact HL
    isplitr; · iexact HR
    iexact HB
  iintro %r HB
  obtain ⟨v679, v700, v701⟩ := r
  dsimp only
  iapply (seq_wp c (part26_wp m ρ c v2 v701)) $$ [HB]
  · isplitr; · iexact HL
    isplitr; · iexact HR
    iexact HB
  iintro %r HB
  obtain ⟨v721, v732, c16_i32_742⟩ := r
  dsimp only
  iapply (seq_wp c (part27_wp m ρ c v2 v732 c16_i32_742)) $$ [HB]
  · isplitr; · iexact HL
    isplitr; · iexact HR
    iexact HB
  iintro %r HB
  obtain ⟨v742, v763⟩ := r
  dsimp only
  iapply (seq_wp c (part28_wp m ρ c v2 v763)) $$ [HB]
  · isplitr; · iexact HL
    isplitr; · iexact HR
    iexact HB
  iintro %v784 HB
  iapply (seq_wp c (part29_wp m ρ c v2)) $$ [HB]
  · isplitr; · iexact HL
    isplitr; · iexact HR
    iexact HB
  iintro %r HB
  obtain ⟨v805, v818, v819, v820, v823⟩ := r
  dsimp only
  iapply (seq_wp c (part30_wp m ρ c v2 v818 v819 v820 v823)) $$ [HB]
  · isplitr; · iexact HL
    isplitr; · iexact HR
    iexact HB
  iintro %r HB
  obtain ⟨v826, v847⟩ := r
  dsimp only
  iapply (seq_wp c (part31_wp m ρ c v2)) $$ [HB]
  · isplitr; · iexact HL
    isplitr; · iexact HR
    iexact HB
  iintro %r HB
  obtain ⟨v868, v881, v882, c0_i32_885⟩ := r
  dsimp only
  iapply (seq_wp c (part32_wp m ρ c v2 v881 v882 c0_i32_885)) $$ [HB]
  · isplitr; · iexact HL
    isplitr; · iexact HR
    iexact HB
  iintro %r HB
  obtain ⟨v889, v910, v911⟩ := r
  dsimp only
  iapply (seq_wp c (part33_wp m ρ c v2 v911)) $$ [HB]
  · isplitr; · iexact HL
    isplitr; · iexact HR
    iexact HB
  iintro %r HB
  obtain ⟨v931, v942, c16_i32_942⟩ := r
  dsimp only
  iapply (seq_wp c (part34_wp m ρ c v942 c16_i32_942)) $$ [HB HT HW HV]
  · isplitr; · iexact HL
    isplitr; · iexact HR
    isplitl [HB]; · iexact HB
    isplitl [HT]; · iexact HT
    isplitl [HW]; · iexact HW
    iexact HV
  iintro %r ⟨%hr, HB, HT, HW, HV⟩
  obtain ⟨v952, rfl⟩ := hr
  dsimp only
  ihave He := (SB_end m ρ c 1 0) $$ HB
  icases He with ⟨HO, Hrem1, Hcr1⟩
  ihave HD := (SD_start m ρ c 0) $$ [HO HcV0 HaV0]
  · isplitl [HO]; · iexact HO
    isplitl [HcV0]; · iexact HcV0
    iexact HaV0
  iapply (seq_wp c (part35_wp m ρ c v231 v252 v273)) $$ [HD]
  · isplitr; · iexact HL
    isplitr; · iexact HR
    iexact HD
  iintro %r ⟨%hr, HD⟩
  subst hr
  dsimp only
  iapply (seq_wp c (part36_wp m ρ c v294 v315)) $$ [HD]
  · isplitr; · iexact HL
    isplitr; · iexact HR
    iexact HD
  iintro %c1_i32_1044 HD
  iapply (seq_wp c (part37_wp m ρ c v336 v357 v378 c1_i32_1044)) $$ [HD]
  · isplitr; · iexact HL
    isplitr; · iexact HR
    iexact HD
  iintro %r HD
  iapply (seq_wp c (part38_wp m ρ c v399 v420 v441)) $$ [HD]
  · isplitr; · iexact HL
    isplitr; · iexact HR
    iexact HD
  iintro %r HD
  iapply (seq_wp c (part39_wp m ρ c v462 v483 v504)) $$ [HD]
  · isplitr; · iexact HL
    isplitr; · iexact HR
    iexact HD
  iintro %r HD
  ihave H00 := (rem_refold c 0 (CA m ρ c) 15) $$ [Hrem0 Hpc0]
  · isplitl [Hrem0]; · iexact Hrem0
    iexact Hpc0
  iapply (seq_wp c (part40_wp m ρ c iprop((∃ W, owes (c : Thread nD τ) 0 W) ∗ bigSep (Finset.Ioc 0 15) fun d => atPos ER (oCell c (1 + 0) d) 1 ∅ 0) v525)) $$ [HD H00 HX]
  · isplitr; · iexact HL
    isplitr; · iexact HR
    isplitl [HD]; · iexact HD
    isplitl [H00]
    · iintro H
      ihave He := (SD_end m ρ c 0) $$ H
      icases He with ⟨HO, Hsl, HaV⟩
      isplitl [H00 Hsl]
      · rw [chunk_slots]
        isplitl [H00]; · iexact H00
        iexact Hsl
      isplitl [HO]; · iexact HO
      iexact HaV
    iexact HX
  iintro %r ⟨%hr, ⟨HO, HaV0⟩, Hch, HX⟩
  subst hr
  dsimp only
  iapply (seq_wp c (part41_wp m ρ c v658)) $$ [Ho HX]
  · isplitr; · iexact HL
    isplitr; · iexact HR
    isplitl [Ho]; · iexact Ho
    iexact HX
  iintro %r ⟨Ho, HX⟩
  ihave HD := (SD_start m ρ c 1) $$ [HO HcV1 HaV1]
  · isplitl [HO]; · iexact HO
    isplitl [HcV1]; · iexact HcV1
    iexact HaV1
  iapply (seq_wp c (part42_wp m ρ c v679 v700 v721)) $$ [HD]
  · isplitr; · iexact HL
    isplitr; · iexact HR
    iexact HD
  iintro %r HD
  iapply (seq_wp c (part43_wp m ρ c v742 v763)) $$ [HD]
  · isplitr; · iexact HL
    isplitr; · iexact HR
    iexact HD
  iintro %r HD
  iapply (seq_wp c (part44_wp m ρ c v784 v805 v826)) $$ [HD]
  · isplitr; · iexact HL
    isplitr; · iexact HR
    iexact HD
  iintro %r HD
  iapply (seq_wp c (part45_wp m ρ c v847 v868 v889)) $$ [HD]
  · isplitr; · iexact HL
    isplitr; · iexact HR
    iexact HD
  iintro %r HD
  iapply (seq_wp c (part46_wp m ρ c v910 v931 v952)) $$ [HD]
  · isplitr; · iexact HL
    isplitr; · iexact HR
    iexact HD
  iintro %r HD
  obtain ⟨v1255, c0_i32_1377⟩ := r
  dsimp only
  iapply (seq_wp c (part47_wp m ρ c iprop((∃ W, owes (c : Thread nD τ) 0 W) ∗ (bigSep (Finset.Ioc 0 15) fun d => atPos ER (oCell c (1 + 1) d) 1 ∅ 0) ∗ (chunkPts c 1 (rem 15) (CA m ρ c) -∗ (slotPts c 1 0 (rem 15) (CA m ρ c) ∗ bigSep (Finset.Ioc 0 15) fun d => slotPts c 1 d fullShare (CA m ρ c)))) v1255 c0_i32_1377)) $$ [HD Hrem1 HX Ho]
  · isplitr; · iexact HL
    isplitr; · iexact HR
    isplitl [HD]; · iexact HD
    isplitl [Hrem1]
    · iintro H
      ihave He := (SD_end m ρ c 1) $$ H
      icases He with ⟨HO, Hsl, HaV⟩
      ihave Hl := (chunk_lent c (CA m ρ c)) $$ [Hrem1 Hsl]
      · isplitl [Hrem1]; · iexact Hrem1
        iexact Hsl
      icases Hl with ⟨Hch, Hw⟩
      isplitl [Hch]; · iexact Hch
      isplitl [HO]; · iexact HO
      isplitl [HaV]; · iexact HaV
      iexact Hw
    isplitl [HX]; · iexact HX
    iexact Ho
  iintro %r ⟨%hr, ⟨HO, HaV1, Hw⟩, Hch1, HX, Ho⟩
  subst hr
  dsimp only
  ihave HC := (SC_start m ρ c 1 0) $$ [HO Hcr1 HaS]
  · isplitl [HO]; · iexact HO
    isplitl [Hcr1]; · iexact Hcr1
    iexact HaS
  iapply (seq_wp c (part48_wp m ρ c)) $$ [HX Ho HC]
  · isplitr; · iexact HL
    isplitr; · iexact HR
    isplitl [HX]; · iexact HX
    isplitl [Ho]; · iexact Ho
    iexact HC
  iintro %r ⟨HX, Ho, HC⟩
  iapply (seq_wp c (part49_wp m ρ c)) $$ [HC]
  · isplitr; · iexact HL
    isplitr; · iexact HR
    iexact HC
  iintro %r HC
  iapply (seq_wp c (part50_wp m ρ c)) $$ [HC]
  · isplitr; · iexact HL
    isplitr; · iexact HR
    iexact HC
  iintro %r HC
  iapply (seq_wp c (part51_wp m ρ c)) $$ [HC]
  · isplitr; · iexact HL
    isplitr; · iexact HR
    iexact HC
  iintro %r HC
  iapply (seq_wp c (part52_wp m ρ c)) $$ [HC]
  · isplitr; · iexact HL
    isplitr; · iexact HR
    iexact HC
  iintro %r HC
  simp only [Prog.lift, Prog.bind_op, Prog.bind_ret, Prog.pure_eq_ret]
  iapply (waitsend_op m ρ c 1 14 (by decide) (by decide) 0 (Or.inr rfl) (sS := oS 0 15) rfl) $$ [HC]
  · isplitr; · iexact HL
    isplitr; · iexact HR
    iexact HC
  iintro HC
  ihave He := (SC_end m ρ c 1 0) $$ HC
  icases He with ⟨HO, Hpc1, HaS, -⟩
  ihave Hl := Hw $$ Hch1
  icases Hl with ⟨Hrem1, Hsl⟩
  ihave H10 := (rem_refold c 1 (CA m ρ c) 15) $$ [Hrem1 Hpc1]
  · isplitl [Hrem1]; · iexact Hrem1
    iexact Hpc1
  ihave Hch1 := (Entails.of_eq (chunk_slots c 1 fullShare (CA m ρ c)).symm) $$ [H10 Hsl]
  · isplitl [H10]; · iexact H10
    iexact Hsl
  ihave Hbuf := (buf_chunks c fullShare (CA m ρ c)).2 $$ [Hch Hch1]
  · isplitl [Hch]; · iexact Hch
    iexact Hch1
  ihave Hout := (out_done m ρ c) $$ Ho
  rw [wp_ret]
  imod (close_bar m ρ c) $$ [Hat] with HzB
  · isplitr; · iexact HR
    iexact Hat
  imod (close_send m ρ c) $$ [HaS] with HzS
  · isplitr; · iexact HR
    iexact HaS
  imod (close_recv m ρ c 0 (by decide)) $$ [HaV0] with HzV0
  · isplitr; · iexact HR
    iexact HaV0
  imod (close_recv m ρ c 1 (by decide)) $$ [HaV1] with HzV1
  · isplitr; · iexact HR
    iexact HaV1
  imodintro
  unfold zeros
  isplitl [HO]; · iexact HO
  isplitl [HzB HzS HzV0 HzV1]
  · isplitl [HzB]; · iexact HzB
    isplitl [HzS]; · iexact HzS
    isplitl [HzV0]; · iexact HzV0
    iexact HzV1
  isplitl [Hbuf]; · iexact Hbuf
  isplitr [Hout]
  · isplitl [HX]; · iexact HX
    isplitl [HT]; · iexact HT
    isplitl [HW]; · iexact HW
    iexact HV
  iexact Hout

end Cert.KernelIdeal.Hand

end
-- ==== Proof.LaunchKernelIdeal.lean ====
/-
The launch: what the launch deals is dealt round the devices, the body is one device's part, and the run of the whole program
follows.
-/
module

public import proofs.«01_k».proof.Proof.BodyKernelIdeal
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem cfg0_N : cfg0.N = 1 := by decide
/-- The one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device holds from the launch on. -/
def start (c : Dev nD) : sProp 𝕄 := iprop((records m ρ ∗ linear c) ∗ credits c ∗ levAts L lv)
/-- Before the body. -/
def Φ₀ (c : Dev nD) : sProp 𝕄 := iprop(start m ρ c ∗ ∃ f : CBuf F, (((c : Thread nD τ).loc cc0_scratch0) ↦{fullShare} f))
/-- After it. -/
def Φ₁ (c : Dev nD) : sProp 𝕄 := iprop((((c : Thread nD τ).loc cc0_scratch0) ↦{fullShare} CA m ρ c) ∗ zeros c)

/-- The pipeline's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wstg m ρ c
    | ⟨3, _⟩ => vstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem fetch_0 (t : Fin cfg0.N) : (cfg0.win (0 : Fin 5)).fetch t = true := by rw [fin_N t]; rfl
theorem fetch_1 (t : Fin cfg0.N) : (cfg0.win (1 : Fin 5)).fetch t = true := by rw [fin_N t]; rfl
theorem fetch_2 (t : Fin cfg0.N) : (cfg0.win (2 : Fin 5)).fetch t = true := by rw [fin_N t]; rfl
theorem fetch_3 (t : Fin cfg0.N) : (cfg0.win (3 : Fin 5)).fetch t = true := by rw [fin_N t]; rfl

/-- A whole buffer owned, in elements. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What it wants back. -/
def bodyPost (c : Dev nD) : sProp 𝕄 :=
  iprop(Φ₁ m ρ c ∗ (dats m ρ 0 c).owesAt () t₀.succ ∗ stg c cc0_stg0_0 (xstg m ρ c) ∗ stg c cc0_stg1_0 (tstg m ρ c)
    ∗ stg c cc0_stg2_0 (wstg m ρ c) ∗ stg c cc0_stg3_0 (vstg m ρ c) ∗ stg c cc0_stg4_0 (outAt m ρ c))

theorem before_0 (c : Dev nD) (d) : (dats m ρ 0 c).before (0 : Fin 5) t₀ d = xstg m ρ c := by unfold Dat.before; rw [if_pos (fetch_0 t₀)]; rfl
theorem before_1 (c : Dev nD) (d) : (dats m ρ 0 c).before (1 : Fin 5) t₀ d = tstg m ρ c := by unfold Dat.before; rw [if_pos (fetch_1 t₀)]; rfl
theorem before_2 (c : Dev nD) (d) : (dats m ρ 0 c).before (2 : Fin 5) t₀ d = wstg m ρ c := by unfold Dat.before; rw [if_pos (fetch_2 t₀)]; rfl
theorem before_3 (c : Dev nD) (d) : (dats m ρ 0 c).before (3 : Fin 5) t₀ d = vstg m ρ c := by unfold Dat.before; rw [if_pos (fetch_3 t₀)]; rfl

set_option maxRecDepth 4000 in
/-- The body between the pipeline's own terms. -/
theorem sound_body (c : Dev nD) : bodyPre m ρ c
    ⊢ wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2)
        (fun _ => bodyPost m ρ c) := by
  unfold bodyPre Φ₀ start Dat.owesAt Pipeline.owesWithin
  iintro ⟨⟨⟨⟨#HR, Hl⟩, Hc, #HL⟩, Hbuf⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩⟩
  rw [before_0] at hg0
  rw [before_1] at hg1
  rw [before_2] at hg2
  rw [before_3] at hg3
  subst hg0 hg1 hg2 hg3
  rw [show (dats m ρ 0 c).owed t₀.castSucc = O₀ c from rfl]
  iapply (wp_wand _ _ _) $$ [Hl Hc Hbuf HO H0 H1 H2 H3 H4]
  · iapply (body_wp m ρ c)
    isplitr; · iexact HL
    isplitr; · iexact HR
    isplitl [Hl]; · iexact Hl
    isplitl [Hc]; · iexact Hc
    isplitl [Hbuf]; · iexact Hbuf
    isplitl [HO]; · iexists W; iexact HO
    isplitr [H4]
    · unfold inputs
      isplitl [H0]; · iexact H0
      isplitl [H1]; · iexact H1
      isplitl [H2]; · iexact H2
      iexact H3
    iexists g4; iexact H4
  · unfold bodyPost Φ₁ Dat.owesAt Pipeline.owesWithin inputs
    rw [show (dats m ρ 0 c).owed t₀.succ = 0 from rfl]
    iintro %_ ⟨⟨%W', HO⟩, Hz, Hbuf, ⟨H0, H1, H2, H3⟩, H4⟩
    isplitl [Hbuf Hz]
    · isplitl [Hbuf]; · iexact Hbuf
      iexact Hz
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    iexact H4

set_option maxRecDepth 40000 in
/-- The library's body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole]
  show bodyPre m ρ c ⊢ _
  exact sound_body m ρ c

/-! ## What the launch deals -/

theorem ownSemFacts : Pipeline.OwnSemFacts cfg0.spec osem := by decide +kernel

theorem share_eq (c : Dev nD) (w : Fin cfg0.W) : (dats m ρ 0 c).share w = fullShare := by unfold Dat.share; split <;> rfl

theorem bar_inj : Function.Injective (barCell : Dev nD → GSem nD τ sig) := fun a b h => congrArg (fun g : GSem nD τ sig => g.1.1) h

theorem osem_inj : Function.Injective osem := by decide +kernel

theorem kcell_inj : Function.Injective (kcell : Dev nD × (Fin 3 × Fin 15) → GSem nD τ sig) := by
  rintro ⟨c, k⟩ ⟨c', k'⟩ h
  have h1 : c = c' := congrArg (fun g : GSem nD τ sig => g.1.1) h
  have h2 : osem k = osem k' := congrArg Prod.snd h
  rw [h1, osem_inj h2]

/-- Every barrier cell. -/
def barCells : Finset (GSem nD τ sig) := Finset.univ.map ⟨barCell, bar_inj⟩
/-- Every cell of the kernel's own. -/
def ownCells : Finset (GSem nD τ sig) := Finset.univ.map ⟨kcell, kcell_inj⟩

theorem cells_disjoint : Disjoint barCells ownCells := Finset.disjoint_left.mpr fun g h h' => by
  obtain ⟨a, -, rfl⟩ := Finset.mem_map.mp h
  obtain ⟨b, -, hb⟩ := Finset.mem_map.mp h'
  have h2 : SemLoc.dma (oS b.2.1.val (b.2.2.val + 1)) = SemLoc.reg barS := congrArg Prod.snd hb
  cases h2

/-- One device's duties by kind and distance. -/
def tokAt (j : Fin 5 × Fin 15) : SemLoc sig × ℕ × ℕ := match j.1 with
  | 0 => (.reg barS, 0, j.2.val + 1)
  | 1 => (.dma (oS 0 (j.2.val + 1)), 0, 0)
  | 2 => (.dma (oS 0 (j.2.val + 1)), 1, 0)
  | 3 => (.dma (oS (1 + 0) (j.2.val + 1)), 0, 0)
  | 4 => (.dma (oS (1 + 1) (j.2.val + 1)), 0, 0)

theorem tokAt_inj : Function.Injective tokAt := by decide +kernel

/-- Every duty of every device's cells. -/
def tokOf (x : Dev nD × (Fin 5 × Fin 15)) : GSem nD τ sig × ℕ × ℕ := (((x.1 : Thread nD τ), (tokAt x.2).1), (tokAt x.2).2)

theorem tokOf_inj : Function.Injective tokOf := by
  rintro ⟨c, j⟩ ⟨c', j'⟩ h
  have h1 : c = c' := congrArg (fun x : GSem nD τ sig × ℕ × ℕ => x.1.1.1) h
  have h2 : tokAt j = tokAt j' := congrArg (fun x : GSem nD τ sig × ℕ × ℕ => (x.1.2, x.2)) h
  rw [h1, tokAt_inj h2]

/-- Their tokens. -/
def allToks : Finset (GSem nD τ sig × ℕ × ℕ) := Finset.univ.map ⟨tokOf, tokOf_inj⟩

/-- The launch element. -/
def u₀ : UU := (initOf (Pipeline.cells cfgs cellOf_inj) (Pipeline.launchToks cfgs cellOf_inj), initOf (barCells ∪ ownCells) allToks)

/-- The duty tokens of a device's own cells. -/
def toks (c : Dev nD) : sProp 𝕄 :=
  iprop((bigSep (Finset.Ioc 0 15) fun d => dutyTok ER (barCell c) 0 d)
    ∗ (bigSep (Finset.Ioc 0 15) fun d => dutyTok ER (oCell c 0 d) 0 0)
    ∗ (bigSep (Finset.Ioc 0 15) fun d => dutyTok ER (oCell c 0 d) 1 0)
    ∗ (bigSep (Finset.Ioc 0 15) fun d => dutyTok ER (oCell c (1 + 0) d) 0 0)
    ∗ bigSep (Finset.Ioc 0 15) fun d => dutyTok ER (oCell c (1 + 1) d) 0 0)

/-- What the launch element deals a device. -/
def G (c : Dev nD) : sProp 𝕄 :=
  iprop((roundState ER (Rd m ρ) (barCell c) 0 ∗ bigSep Finset.univ fun k : Fin 3 × Fin 15 => roundState ER (Rd m ρ) (kcell (c, k)) 0)
    ∗ (atPos ER (barCell c) 0 ∅ 0 ∗ bigSep Finset.univ fun k : Fin 3 × Fin 15 => atPos ER (kcell (c, k)) 0 ∅ 0)
    ∗ (reached ER (barCell c) 0 ∗ bigSep Finset.univ fun k : Fin 3 × Fin 15 => reached ER (kcell (c, k)) 0) ∗ toks c)

/-- What the devices together make of it. -/
def G' (c : Dev nD) : sProp 𝕄 := iprop(records m ρ ∗ linear c)

theorem big_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem big_fin3 (Φ : Fin 3 → sProp 𝕄) : bigSep Finset.univ Φ = iprop(Φ 0 ∗ Φ 1 ∗ Φ 2) := bigSep_univ_eq_bigSepL [0, 1, 2] (by decide) (by decide) Φ

/-- The cells, device by device. -/
theorem big_cells (Φ : GSem nD τ sig → sProp 𝕄) : bigSep (barCells ∪ ownCells) Φ
    = iprop((bigSep Finset.univ fun c : Dev nD => Φ (barCell c)) ∗ bigSep Finset.univ fun c : Dev nD => bigSep Finset.univ fun k : Fin 3 × Fin 15 => Φ (kcell (c, k))) := by
  have h : bigSep (barCells ∪ ownCells) Φ = iprop(bigSep barCells Φ ∗ bigSep ownCells Φ) := bigSep_union cells_disjoint
  rw [h]; unfold barCells ownCells
  rw [bigSep_map, bigSep_map, bigSep_univ_prod]; rfl

/-- The tokens, device by device. -/
theorem big_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_prod, big_fin5, big_dist, big_dist, big_dist, big_dist, big_dist]; rfl

theorem fund_all : BI.own (ER (initOf (barCells ∪ ownCells) allToks)) ⊢ (|==> bigSep Finset.univ (G m ρ) : sProp 𝕄) := by
  iintro HX
  imod (Rounds.fund ER (Rd m ρ) (barCells ∪ ownCells) allToks) $$ HX with ⟨Hst, Hr, Hat, Htok⟩
  imodintro
  ihave Hst' := (Entails.of_eq (big_cells fun g => roundState ER (Rd m ρ) g 0)) $$ Hst
  ihave Hat' := (Entails.of_eq (big_cells (F := F) fun g => atPos ER g 0 ∅ 0)) $$ Hat
  ihave Hr' := (Entails.of_eq (big_cells (F := F) fun g => reached ER g 0)) $$ Hr
  ihave Htok' := (Entails.of_eq (big_toks (F := F))) $$ Htok
  unfold G; simp only [bigSep_sep']
  isplitl [Hst']; · iexact Hst'
  isplitl [Hat']; · iexact Hat'
  isplitl [Hr']; · iexact Hr'
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((iprop(∃ κ : ℕ, cellInv ER (Rd m ρ) κ (barCell c)) ∗ bigSep Finset.univ fun k : Fin 3 × Fin 15 => iprop(∃ κ : ℕ, cellInv ER (Rd m ρ) κ (kcell (c, k))))
          ∗ (atPos ER (barCell c) 0 ∅ 0 ∗ bigSep Finset.univ fun k : Fin 3 × Fin 15 => atPos ER (kcell (c, k)) 0 ∅ 0)
          ∗ (reached ER (barCell c) 0 ∗ bigSep Finset.univ fun k : Fin 3 × Fin 15 => reached ER (kcell (c, k)) 0) ∗ toks c) := by
  unfold G
  rw [unscopedSems0_eq]
  iintro ⟨Hos, Hus, ⟨Hsb, Hst⟩, Hat, Hr, Htok⟩
  imod (show iprop((bigSep Finset.univ fun k : Fin 3 × Fin 15 => semVal (kcell (c, k)) 0) ∗ bigSep Finset.univ fun k : Fin 3 × Fin 15 => roundState ER (Rd m ρ) (kcell (c, k)) 0)
      ⊢ (|={Set.univ}=> bigSep Finset.univ fun k : Fin 3 × Fin 15 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hst] with Hinv
  · isplitl [Hos]; · unfold Pipeline.ownSems0; iexact Hos
    iexact Hst
  imod (show iprop(semVal (barCell c) 0 ∗ roundState ER (Rd m ρ) (barCell c) 0) ⊢ (|={Set.univ}=> iprop(∃ κ : ℕ, cellInv ER (Rd m ρ) κ (barCell c)) : sProp 𝕄) from
      (Rounds.body_intro ER (Rd m ρ) (barCell c)).trans inv_alloc) $$ [Hus Hsb] with Hib
  · isplitl [Hus] <;> iassumption
  imodintro
  isplitl [Hinv Hib]
  · isplitl [Hib]; · iexact Hib
    iexact Hinv
  isplitl [Hat]; · iexact Hat
  isplitl [Hr]; · iexact Hr
  iexact Htok

/-- Tokens dealt along the distances: what device `c` has of its own cell at distance `d` goes to the device `d` before. -/
theorem big_around (Φ : Dev nD → ℕ → sProp 𝕄) :
    (bigSep Finset.univ fun c : Dev nD => bigSep (Finset.Ioc 0 15) fun d => Φ c d)
      = bigSep Finset.univ fun c : Dev nD => bigSep (Finset.Ioc 0 15) fun d => Φ (pl c d) d := by
  simp only [big_dist]
  rw [bigSep_univ_comm, bigSep_univ_comm (fun (c : Dev nD) (i : Fin 15) => Φ (pl c (i.val + 1)) (i.val + 1))]
  refine bigSep_congr fun i _ => ?_
  exact bigSep_univ_equiv (shift (i.val + 1) (by have := i.isLt; omega)) (fun c : Dev nD => Φ c (i.val + 1))

/-- The tokens of the duties a device pays. -/
def payToks (c : Dev nD) : sProp 𝕄 :=
  iprop((bigSep (Finset.Ioc 0 15) fun d => dutyTok ER (barCell (pl c d)) 0 (16 - d))
    ∗ (bigSep (Finset.Ioc 0 15) fun d => dutyTok ER (oCell c 0 d) 0 0)
    ∗ (bigSep (Finset.Ioc 0 15) fun d => dutyTok ER (oCell c 0 d) 1 0)
    ∗ (bigSep (Finset.Ioc 0 15) fun d => dutyTok ER (oCell (pl c d) (1 + 0) d) 0 0)
    ∗ bigSep (Finset.Ioc 0 15) fun d => dutyTok ER (oCell (pl c d) (1 + 1) d) 0 0)

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep',
    big_around (fun (c : Dev nD) d => (dutyTok ER (oCell c (1 + 0) d) 0 0 : sProp 𝕄)),
    big_around (fun (c : Dev nD) d => (dutyTok ER (oCell c (1 + 1) d) 0 0 : sProp 𝕄)),
    ← big_around (fun (c : Dev nD) d => (dutyTok ER (barCell c) 0 (16 - d) : sProp 𝕄))]
  congr 1
  exact bigSep_congr fun c _ => big_flip (fun d => (dutyTok ER (barCell c) 0 d : sProp 𝕄))

theorem pos_split (c : Dev nD) : (bigSep Finset.univ fun k : Fin 3 × Fin 15 => (atPos ER (kcell (c, k)) 0 ∅ 0 : sProp 𝕄))
    = iprop((bigSep (Finset.Ioc 0 15) fun d => atPos ER (oCell c 0 d) 0 ∅ 0)
      ∗ (bigSep (Finset.Ioc 0 15) fun d => atPos ER (oCell c (1 + 0) d) 0 ∅ 0)
      ∗ bigSep (Finset.Ioc 0 15) fun d => atPos ER (oCell c (1 + 1) d) 0 ∅ 0) := by
  rw [bigSep_univ_prod, big_fin3, big_dist, big_dist, big_dist]; rfl

theorem sems_split (c : Dev nD) : (Pipeline.ownSems0 (Ix := Unit) (Name := ℕ) (U := UU) (Lvl := ℕ) (Val := Elt F) (τ := τ) osem c : sProp 𝕄)
    = iprop((bigSep (Finset.Ioc 0 15) fun d => semVal (oCell c 0 d) 0)
      ∗ (bigSep (Finset.Ioc 0 15) fun d => semVal (oCell c (1 + 0) d) 0)
      ∗ bigSep (Finset.Ioc 0 15) fun d => semVal (oCell c (1 + 1) d) 0) := by
  unfold Pipeline.ownSems0
  rw [bigSep_univ_prod, big_fin3, big_dist, big_dist, big_dist]; rfl

/-- What stays with a device, as its body starts from it. -/
theorem linear_intro (c : Dev nD) :
    iprop((atPos ER (barCell c) 0 ∅ 0 ∗ bigSep Finset.univ fun k : Fin 3 × Fin 15 => (atPos ER (kcell (c, k)) 0 ∅ 0 : sProp 𝕄)) ∗ payToks c) ⊢ (linear c : sProp 𝕄) := by
  rw [pos_split]; unfold payToks linear
  iintro ⟨⟨H1, H2, H3, H4⟩, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem regroup :
    (bigSep Finset.univ fun c : Dev nD => iprop((iprop(∃ κ : ℕ, cellInv ER (Rd m ρ) κ (barCell c)) ∗ bigSep Finset.univ fun k : Fin 3 × Fin 15 => iprop(∃ κ : ℕ, cellInv ER (Rd m ρ) κ (kcell (c, k))))
          ∗ (atPos ER (barCell c) 0 ∅ 0 ∗ bigSep Finset.univ fun k : Fin 3 × Fin 15 => atPos ER (kcell (c, k)) 0 ∅ 0)
          ∗ (reached ER (barCell c) 0 ∗ bigSep Finset.univ fun k : Fin 3 × Fin 15 => reached ER (kcell (c, k)) 0) ∗ toks c) : sProp 𝕄)
      ⊢ bigSep Finset.univ (G' m ρ) := by
  simp only [big_sep]
  rw [← bigSep_univ_prod (fun ck : Dev nD × (Fin 3 × Fin 15) => iprop(∃ κ : ℕ, cellInv ER (Rd m ρ) κ (kcell ck))),
    ← bigSep_univ_prod (fun ck : Dev nD × (Fin 3 × Fin 15) => (reached ER (kcell ck) 0 : sProp 𝕄)), toks_around]
  iintro ⟨⟨#HI, #HJ⟩, Hat, ⟨#HR, #HS⟩, Htok⟩
  iapply (big_known (P := records m ρ) (Φ := fun c : Dev nD => linear c) (Ψ := G' m ρ) fun c _ => Entails.of_eq (show iprop(records m ρ ∗ linear c) = G' m ρ c from rfl))
  isplitr
  · unfold records
    isplitl; · iexact HI
    isplitl; · iexact HJ
    isplitl; · iexact HR
    iexact HS
  · ihave H := (Entails.of_eq (show (iprop(((bigSep Finset.univ fun c : Dev nD => atPos ER (barCell c) 0 ∅ 0) ∗ bigSep Finset.univ fun c : Dev nD => bigSep Finset.univ fun k : Fin 3 × Fin 15 => atPos ER (kcell (c, k)) 0 ∅ 0) ∗ bigSep Finset.univ fun c : Dev nD => payToks c) : sProp 𝕄)
          = bigSep Finset.univ (fun c : Dev nD => iprop((atPos ER (barCell c) 0 ∅ 0 ∗ bigSep Finset.univ fun k : Fin 3 × Fin 15 => (atPos ER (kcell (c, k)) 0 ∅ 0 : sProp 𝕄)) ∗ payToks c)) from by
        rw [big_sep, big_sep])) $$ [Hat Htok]
    · isplitl [Hat]; · iexact Hat
      iexact Htok
    iapply (big_mono (F := F) fun (c : Dev nD) _ => linear_intro c)
    iexact H

/-- The devices' step together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A tally once per distance. -/
theorem tally_sum (g : GSem nD τ sig) : (∑ _d ∈ Finset.Ioc 0 15, tallyAt g () 1 : CellTallies nD τ sig Unit) = tallyAt g () 15 := by
  funext g'
  refine Finsupp.ext fun u => ?_
  rw [Finset.sum_apply, Finsupp.finset_sum_apply]
  simp only [tallyAt_apply]
  split
  · rw [Finset.sum_const, Nat.card_Ioc]; rfl
  · exact Finset.sum_const_zero

theorem cred_at (c : Dev nD) (sm : SemLoc sig) (d : ℕ) (hd : d ∈ Finset.Ioc 0 15) (n : ℕ) :
    (Pipeline.launchCred (fun e : Dev nD => tallyAt (((pl e d : Dev nD) : Thread nD τ), sm) () n) c : sProp 𝕄) ⊢ cred (tallyAt ((c : Thread nD τ), sm) () n) := by
  rw [Finset.mem_Ioc] at hd
  exact Pipeline.launchCred_tallyAt sm (fun e => pl e d) (fun e => pl e (16 - d)) (fun e => pl_pl e _ _ (by omega)) (fun e => pl_pl e _ _ (by omega)) () n c

theorem creds (c : Dev nD) : (Pipeline.launchCred O₀ c : sProp 𝕄) ⊢ credits c := by
  have h1 : (Pipeline.launchCred O₀ c : sProp 𝕄)
      = iprop((Pipeline.launchCred (fun d => OR 1 0 d) c ∗ Pipeline.launchCred (fun d => OR 0 0 d) c) ∗ Pipeline.launchCred (fun d => OB 0 d) c) := by
    rw [← Pipeline.launchCred_add, ← Pipeline.launchCred_add]; rfl
  have hR (k : ℕ) : (Pipeline.launchCred (fun d => OR k 0 d) c : sProp 𝕄) ⊢ bigSep (Finset.Ioc 0 15) fun d => cred (tallyAt (oCell c (1 + k) d) () N) := by
    unfold OR
    rw [Pipeline.launchCred_sum (Finset.Ioc 0 15) (fun d e => tallyAt (oCell (pl e d) (1 + k) d) () N) c]
    exact big_mono fun d hd => cred_at c (.dma (oS (1 + k) d)) d hd N
  have hB : (Pipeline.launchCred (fun d => OB 0 d) c : sProp 𝕄) ⊢ cred (tallyAt (barCell c) () 15) := by
    unfold OB
    rw [Pipeline.launchCred_sum (Finset.Ioc 0 15) (fun d e => tallyAt (barCell (pl e d)) () 1) c, ← tally_sum, Pipeline.cred_finsetSum]
    exact big_mono fun d hd => cred_at c (.reg barS) d hd 1
  rw [h1]
  unfold credits
  iintro ⟨⟨H1, H0⟩, HB⟩
  isplitl [HB]; · iapply hB; iexact HB
  isplitl [H0]; · iapply (hR 0); iexact H0
  iapply (hR 1); iexact H1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, sems_split, unscopedSems0_eq]
  unfold Φ₁ zeros
  iintro ⟨Hr, HzB, Hz⟩
  isplitl [HzB]; · iexact HzB
  isplitl [Hz]; · iexact Hz
  iexists (CA m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every window's array is at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter zero, every weakly fair execution of the program ends, and every final state has each
    device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What each argument window's array holds after the run is what it held. -/
theorem finalA_0 (c : Dev nD) : finalA m ρ c (0 : Fin 5) = (s₀ m ρ).mem ((c : Thread nD τ).loc main_arg0) := (dats (F := F) m ρ 0 c).arrAt_in (0 : Fin 5) rfl _
theorem finalA_1 (c : Dev nD) : finalA m ρ c (1 : Fin 5) = (s₀ m ρ).mem ((c : Thread nD τ).loc main_arg1) := (dats (F := F) m ρ 0 c).arrAt_in (1 : Fin 5) rfl _
theorem finalA_2 (c : Dev nD) : finalA m ρ c (2 : Fin 5) = (s₀ m ρ).mem ((c : Thread nD τ).loc main_arg2) := (dats (F := F) m ρ 0 c).arrAt_in (2 : Fin 5) rfl _
theorem finalA_3 (c : Dev nD) : finalA m ρ c (3 : Fin 5) = (s₀ m ρ).mem ((c : Thread nD τ).loc main_arg3) := (dats (F := F) m ρ 0 c).arrAt_in (3 : Fin 5) rfl _

/-- The frame: every fair execution ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (finalA_0 m ρ c), (h.1 c 1).trans (finalA_1 m ρ c),
    (h.1 c 2).trans (finalA_2 m ρ c), (h.1 c 3).trans (finalA_3 m ρ c)⟩, h.2⟩) (run_main m ρ)

end Cert.KernelIdeal.Hand

end
-- ==== Proof.Moments.lean ====
/-
The arithmetic of the layer norm over the extended reals: at finite channel values the kernel's way to the normalised value
(two moments, one reciprocal square root) is the reference's (the mean, the mean squared deviation, a square root and a
division).
-/
module

public import Idealize.ShloMosaic.PureOps.Ideal
public import Idealize.ShloMosaic.Lib.IdealHost
public import Mathlib.Analysis.SpecialFunctions.Pow.NNReal

@[expose] public section

noncomputable section

namespace Cert.Moments

open Idealize.ShloMosaic

/-- The constant added to the variance, as a real. -/
def eps : ℝ := 10995116 * (2 : ℝ) ^ (-40 : ℤ)

theorem eps_pos : 0 < eps := by unfold eps; positivity

/-- The literal of the constant added to the variance. -/
theorem ofBits_eps : Ideal.ofBits .f32 0x3727C5AC#32 = (eps : EReal) := by
  simp [Ideal.ofBits, Ideal.ieee, eps, -EReal.coe_mul]

/-- The literal of the reciprocal of the number of channels. -/
theorem ofBits_recip : Ideal.ofBits .f32 0x39000000#32 = ((1 / 8192 : ℝ) : EReal) := by
  simp [Ideal.ofBits, Ideal.ieee, -EReal.coe_mul]; norm_num

/-- The literal of the number of channels. -/
theorem ofBits_count : Ideal.ofBits .f32 0x46000000#32 = ((8192 : ℝ) : EReal) := by
  simp [Ideal.ofBits, Ideal.ieee, -EReal.coe_mul]; norm_num

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by a nonzero real. -/
theorem div_real {x y : ℝ} (hy : y ≠ 0) : Ideal.div (x : EReal) (y : EReal) = ((x / y : ℝ) : EReal) := by
  rw [Ideal.div_coe hy, ← EReal.coe_mul]; congr 1; ring

theorem sqrt_real {x : ℝ} (hx : 0 ≤ x) : Ideal.sqrt (x : EReal) = (Real.sqrt x : EReal) := by
  show (if x < 0 then (⊥ : EReal) else (Real.sqrt x : EReal)) = _
  rw [if_neg (not_lt.mpr hx)]

theorem rsqrt_real {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The mean squared deviation is the second moment less the square of the mean. -/
theorem variance {ι : Type} [Fintype ι] (h : Fintype.card ι = 8192) (a : ι → ℝ) :
    (∑ i, (a i - (∑ j, a j) / 8192) * (a i - (∑ j, a j) / 8192)) / 8192
      = (∑ i, a i * a i) * (1 / 8192) - (∑ i, a i) * (1 / 8192) * ((∑ i, a i) * (1 / 8192)) := by
  set S := ∑ j, a j with hS
  have e : ∀ i, (a i - S / 8192) * (a i - S / 8192) = a i * a i - 2 * (S / 8192) * a i + (S / 8192) * (S / 8192) := fun i => by ring
  simp only [e, Finset.sum_add_distrib, Finset.sum_sub_distrib, ← Finset.mul_sum, Finset.sum_const, Finset.card_univ, h, ← hS]
  rw [nsmul_eq_mul]; push_cast; ring

/-- At finite values the normalised value by the two moments is the normalised value by the deviations. -/
theorem normalised {ι : Type} [Fintype ι] (h : Fintype.card ι = 8192) (X : ι → EReal) (hX : ∀ i, X i ≠ ⊥ ∧ X i ≠ ⊤) (i : ι) :
    (X i - (∑ j, X j) * ((1 / 8192 : ℝ) : EReal))
        * Ideal.rsqrt ((∑ j, X j * X j) * ((1 / 8192 : ℝ) : EReal)
            - (∑ j, X j) * ((1 / 8192 : ℝ) : EReal) * ((∑ j, X j) * ((1 / 8192 : ℝ) : EReal)) + (eps : EReal))
      = Ideal.div (X i - Ideal.div (∑ j, X j) ((8192 : ℝ) : EReal))
          (Ideal.sqrt (Ideal.div (∑ k, (X k - Ideal.div (∑ j, X j) ((8192 : ℝ) : EReal)) * (X k - Ideal.div (∑ j, X j) ((8192 : ℝ) : EReal))) ((8192 : ℝ) : EReal)
            + (eps : EReal))) := by
  obtain ⟨a, rfl⟩ : ∃ a : ι → ℝ, X = fun i => (a i : EReal) :=
    ⟨fun i => (X i).toReal, funext fun i => (EReal.coe_toReal (hX i).2 (hX i).1).symm⟩
  have h8 : (8192 : ℝ) ≠ 0 := by norm_num
  have hv := variance h a
  have hv0 : 0 ≤ (∑ i, (a i - (∑ j, a j) / 8192) * (a i - (∑ j, a j) / 8192)) / 8192 :=
    div_nonneg (Finset.sum_nonneg fun i _ => mul_self_nonneg _) (by norm_num)
  simp only [← EReal.coe_mul, ← coe_sum, div_real h8, ← EReal.coe_sub, ← EReal.coe_add]
  rw [← hv]
  have hp : 0 < (∑ i, (a i - (∑ j, a j) / 8192) * (a i - (∑ j, a j) / 8192)) / 8192 + eps := add_pos_of_nonneg_of_pos hv0 eps_pos
  rw [rsqrt_real hp, sqrt_real hp.le, div_real (Real.sqrt_pos.mpr hp).ne', ← EReal.coe_mul]
  congr 1
  rw [mul_one_div]
  exact (div_eq_mul_inv _ _).symm

end Cert.Moments

end
-- ==== Proof.Values.lean ====
/-
The kernel's result read at an index, at the ideal values: the values less the mean, times the reciprocal root, times one plus the
scale, plus the shift, the mean and the root from the sixteen devices' statistics.
-/
module

public import proofs.«01_k».proof.Proof.LaunchKernelIdeal
public import proofs.«01_k».proof.Proof.Moments
public import Idealize.ShloMosaic.Lib.IdealHost
public import Idealize.ShloMosaic.Lib.ValueIdx
public import Idealize.ShloMosaic.Lib.ValueLayout
public import Idealize.ShloMosaic.Lib.MatmulPlain

@[expose] public section

noncomputable section

namespace Cert.KernelIdeal.Hand

open Cert.KernelIdeal Cert.KernelIdeal.Gen Cert.Moments
open Idealize.ShloMosaic Idealize.ShloMosaic.TcCoe Idealize.ShloMosaic.ValueIdx Idealize.SL.Sem

/-! ## Layout operations at an index -/

/-- A shape cast to the same shape is the vector itself. -/
theorem cast_same {s : Shape} {α : Type} (v : s.Idx → α) (h : s.ShapeCasts s) : shapeCast s v h = v :=
  funext fun i => shapeCast_apply v h i i rfl

/-- A per-step value spread over the channels. -/
theorem colSpread_apply (v : FVec Ideal S2x1024 .f32) (b : Fin 2) (r : Fin 1024) (d : Fin 512) :
    broadcastTo S2x1024x512 (shapeCast S2x1024x1 v shapeCasts_S2x1024_S2x1024x1) broadcasts_S2x1024x1_S2x1024x512 (ix3 b r d) = v (ix2 b r) := by
  refine (broadcastTo_apply _ _ (ix3 b r d) (ix3 b r (0 : Fin 1)) (fun a => ?_)).trans (shapeCast_apply _ _ _ _ ?_)
  · match a with
    | ⟨0, _⟩ => rfl
    | ⟨1, _⟩ => rfl
    | ⟨2, _⟩ => rfl
  · rw [Shape.rowMajor_val_two, Shape.rowMajor_val_three]
    show b.val * 1024 + r.val = (b.val * 1024 + r.val) * 1 + 0
    omega

/-- A per-channel value spread over the steps. -/
theorem rowSpread_apply (v : FVec Ideal S2x512 .f32) (b : Fin 2) (r : Fin 1024) (d : Fin 512) :
    broadcastTo S2x1024x512 (shapeCast S2x1x512 v shapeCasts_S2x512_S2x1x512) broadcasts_S2x1x512_S2x1024x512 (ix3 b r d) = v (ix2 b d) := by
  refine (broadcastTo_apply _ _ (ix3 b r d) (ix3 b (0 : Fin 1) d) (fun a => ?_)).trans (shapeCast_apply _ _ _ _ ?_)
  · match a with
    | ⟨0, _⟩ => rfl
    | ⟨1, _⟩ => rfl
    | ⟨2, _⟩ => rfl
  · rw [Shape.rowMajor_val_two, Shape.rowMajor_val_three]
    show b.val * 512 + d.val = (b.val * 1 + 0) * 512 + d.val
    omega

/-! ## The last step: normalise, scale, shift -/

/-- The normalised, scaled and shifted values of 1024 steps. -/
def normT (s v : FVec Ideal S2x512 .f32) (mean inv : FVec Ideal S2x1024 .f32) (x : FVec Ideal S2x1024x512 .f32) : FVec Ideal S2x1024x512 .f32 :=
  addf (mulf (mulf (subf x (broadcastTo S2x1024x512 (shapeCast S2x1024x1 mean shapeCasts_S2x1024_S2x1024x1) broadcasts_S2x1024x1_S2x1024x512))
    (broadcastTo S2x1024x512 (shapeCast S2x1024x1 inv shapeCasts_S2x1024_S2x1024x1) broadcasts_S2x1024x1_S2x1024x512))
    (broadcastTo S2x1024x512 (shapeCast S2x1x512 s shapeCasts_S2x512_S2x1x512) broadcasts_S2x1x512_S2x1024x512))
    (broadcastTo S2x1024x512 (shapeCast S2x1x512 v shapeCasts_S2x512_S2x1x512) broadcasts_S2x1x512_S2x1024x512)

theorem normT_apply (s v : FVec Ideal S2x512 .f32) (mean inv : FVec Ideal S2x1024 .f32) (x : FVec Ideal S2x1024x512 .f32)
    (b : Fin 2) (r : Fin 1024) (d : Fin 512) :
    normT s v mean inv x (ix3 b r d) = (x (ix3 b r d) - mean (ix2 b r)) * inv (ix2 b r) * s (ix2 b d) + v (ix2 b d) := by
  unfold normT
  rw [addf_apply, mulf_apply, mulf_apply, subf_apply, colSpread_apply, colSpread_apply, rowSpread_apply, rowSpread_apply]

/-- The first 1024 steps of a chunk's per-step values. -/
abbrev lo (w : FVec Ideal S2x2048 .f32) : FVec Ideal S2x1024 .f32 := extractStridedSlice S2x1024 ![0, 0] w slices_S2x2048_o0_0_S2x1024
/-- The last 1024 steps of a chunk's per-step values. -/
abbrev hi (w : FVec Ideal S2x2048 .f32) : FVec Ideal S2x1024 .f32 := extractStridedSlice S2x1024 ![0, 1024] w slices_S2x2048_o0_1024_S2x1024

theorem lo_apply (w : FVec Ideal S2x2048 .f32) (b : Fin 2) (r : Fin 1024) : lo w (ix2 b r) = w (ix2 b ⟨r.val, by omega⟩) :=
  slice2_axis1_apply 0 w slices_S2x2048_o0_0_S2x1024 b r ⟨r.val, by omega⟩ (by show r.val = 0 + r.val; omega)

theorem hi_apply (w : FVec Ideal S2x2048 .f32) (b : Fin 2) (r : Fin 1024) : hi w (ix2 b r) = w (ix2 b ⟨1024 + r.val, by omega⟩) :=
  slice2_axis1_apply 1024 w slices_S2x2048_o0_1024_S2x1024 b r ⟨1024 + r.val, by omega⟩ rfl

/-- The second chunk is treated as the first. -/
theorem pay26_eq (w : Vec Ideal S1x16x4x2048 .f32) : k0_pay26 (F := Ideal) w = k0_pay19 w := rfl
theorem pay27_eq (w : Vec Ideal S1x16x4x2048 .f32) : k0_pay27 (F := Ideal) w = k0_pay20 w := rfl

variable (m : (ℓ : Loc nD τ sig) → Buf (Elt Ideal) ℓ) (ρ : Dev nD → PrngReg)

theorem och_0 (c : Dev nD) : och m ρ c 0 = normT (sc m ρ c) (sh m ρ c) (lo (k0_pay19 (cch m ρ c 0))) (lo (k0_pay20 (cch m ρ c 0)))
    (shapeCast S2x1024x512 (xch 0 (xstg m ρ c)) shapeCasts_S2x1024x512_S2x1024x512) := rfl
theorem och_1 (c : Dev nD) : och m ρ c 1 = normT (sc m ρ c) (sh m ρ c) (hi (k0_pay19 (cch m ρ c 0))) (hi (k0_pay20 (cch m ρ c 0)))
    (shapeCast S2x1024x512 (xch 1 (xstg m ρ c)) shapeCasts_S2x1024x512_S2x1024x512) := rfl
theorem och_2 (c : Dev nD) : och m ρ c 2 = normT (sc m ρ c) (sh m ρ c) (lo (k0_pay19 (cch m ρ c 1))) (lo (k0_pay20 (cch m ρ c 1)))
    (shapeCast S2x1024x512 (xch 2 (xstg m ρ c)) shapeCasts_S2x1024x512_S2x1024x512) := rfl
theorem och_3 (c : Dev nD) : och m ρ c 3 = normT (sc m ρ c) (sh m ρ c) (hi (k0_pay19 (cch m ρ c 1))) (hi (k0_pay20 (cch m ρ c 1)))
    (shapeCast S2x1024x512 (xch 3 (xstg m ρ c)) shapeCasts_S2x1024x512_S2x1024x512) := rfl

/-! ## The statistics -/

/-- The pieces of a block at an index. -/
theorem xch_apply (q : Fin 4) (f : (cc0_stg0_0 : Ref sig .tc).ty.Contents (Elt Ideal)) (b : Fin 2) (r : Fin 1024) (d : Fin 512) :
    xch (F := Ideal) q f (ix3 b r d) = f (ix3 b (⟨1024 * q.val + r.val, by have := q.isLt; omega⟩ : Fin 4096) d) := by
  show f ((xR q).emb (ix3 b r d) : S2x4096x512.Idx) = _
  congr 1
  funext a
  refine Fin.ext ((ValueKit.rect_emb_unit_val _ _ _ _ a).trans ?_)
  match a with
  | ⟨0, _⟩ => show 0 + b.val = b.val; omega
  | ⟨1, _⟩ => rfl
  | ⟨2, _⟩ => show 0 + d.val = d.val; omega

/-- A sum over the channels of a piece. -/
theorem sumCh_apply (v : FVec Ideal S2x1024x512 .f32) (i : Fin 2) (r : Fin 1024) :
    shapeCast S1x1x2x1024 (multiReduction .add [2] S2x1024 v 0x00000000#32 reduces_S2x1024x512_S2x1024 (.inl rfl) rfl) shapeCasts_S2x1024_S1x1x2x1024 (boxIdx i r)
      = ∑ d : Fin 512, v (ix3 i r d) := by
  refine (shapeCast_apply _ _ _ (ix2 i r) ?_).trans ?_
  · rw [Shape.rowMajor_val_two, Shape.rowMajor_val_four]
    show i.val * 1024 + r.val = ((0 * 1 + 0) * 2 + i.val) * 1024 + r.val
    omega
  · refine (Ideal.multiReduction_add_single v 0x00000000#32 reduces_S2x1024x512_S2x1024 (.inl rfl) rfl (ix2 i r)).trans ?_
    refine Finset.sum_congr rfl fun k _ => congrArg v ?_
    funext a
    match a with
    | ⟨0, _⟩ => rfl
    | ⟨1, _⟩ => rfl
    | ⟨2, _⟩ => rfl

theorem pay2_apply (v : FVec Ideal S2x1024x512 .f32) (i : Fin 2) (r : Fin 1024) : k0_pay2 (F := Ideal) v (boxIdx i r) = ∑ d : Fin 512, v (ix3 i r d) := by
  show shapeCast S1x1x2x1024 (multiReduction .add [2] S2x1024 (shapeCast S2x1024x512 v shapeCasts_S2x1024x512_S2x1024x512) 0x00000000#32
    reduces_S2x1024x512_S2x1024 (.inl rfl) rfl) shapeCasts_S2x1024_S1x1x2x1024 (boxIdx i r) = _
  rw [cast_same]
  exact sumCh_apply v i r

theorem pay3_apply (v : FVec Ideal S2x1024x512 .f32) (i : Fin 2) (r : Fin 1024) :
    k0_pay3 (F := Ideal) v (boxIdx i r) = ∑ d : Fin 512, (v (ix3 i r d) * v (ix3 i r d) : EReal) := by
  show shapeCast S1x1x2x1024 (multiReduction .add [2] S2x1024 (mulf (shapeCast S2x1024x512 v shapeCasts_S2x1024x512_S2x1024x512)
    (shapeCast S2x1024x512 v shapeCasts_S2x1024x512_S2x1024x512)) 0x00000000#32
    reduces_S2x1024x512_S2x1024 (.inl rfl) rfl) shapeCasts_S2x1024_S1x1x2x1024 (boxIdx i r) = _
  rw [cast_same]
  exact sumCh_apply (mulf v v) i r

/-- Device `p`'s block at an index, as an extended real. -/
def xat (p : Dev nD) (b : Fin 2) (t : Fin 4096) (d : Fin 512) : EReal := (xstg m ρ p : S2x4096x512.Idx → EReal) (ix3 b t d)

/-- The step of a chunk and a column. -/
def stepOf (k : Fin 2) (r : Fin 2048) : Fin 4096 := ⟨2048 * k.val + r.val, by have := k.isLt; omega⟩

theorem xch_stat (p : Dev nD) (k : Fin 2) (i : Fin 2) (r : Fin 2048) (d : Fin 512) :
    xch (F := Ideal) (⟨2 * k.val + r.val / 1024, by omega⟩ : Fin 4) (xstg m ρ p) (ix3 i (⟨r.val % 1024, by omega⟩ : Fin 1024) d)
      = xat m ρ p i (stepOf k r) d := by
  rw [xch_apply]
  unfold xat stepOf
  congr 3
  show 1024 * (2 * k.val + r.val / 1024) + r.val % 1024 = 2048 * k.val + r.val
  omega

/-- A device's sums. -/
theorem stat_sum (p : Dev nD) (k : Fin 2) (i : Fin 2) (r : Fin 2048) :
    stat m ρ p k (⟨i.val, by omega⟩ : Fin 4) r = ∑ d : Fin 512, xat m ρ p i (stepOf k r) d := by
  unfold stat
  have hi : (⟨i.val % 2, by omega⟩ : Fin 2) = i := Fin.ext (by show i.val % 2 = i.val; omega)
  dsimp only
  rw [if_pos i.isLt, pay2_apply, hi]
  exact Finset.sum_congr rfl fun d _ => xch_stat m ρ p k i r d

/-- A device's sums of squares. -/
theorem stat_sq (p : Dev nD) (k : Fin 2) (i : Fin 2) (r : Fin 2048) :
    stat m ρ p k (⟨2 + i.val, by omega⟩ : Fin 4) r = ∑ d : Fin 512, xat m ρ p i (stepOf k r) d * xat m ρ p i (stepOf k r) d := by
  unfold stat
  have hi : (⟨(2 + i.val) % 2, by omega⟩ : Fin 2) = i := Fin.ext (by show (2 + i.val) % 2 = i.val; omega)
  dsimp only
  rw [if_neg (by omega), pay3_apply, hi]
  exact Finset.sum_congr rfl fun d _ => by rw [xch_stat m ρ p k i r d]

/-- What is loaded of a chunk, at an index. -/
theorem cch_apply (c : Dev nD) (k : Fin 2) (j : Fin 16) (i : Fin 4) (r : Fin 2048) :
    cch m ρ c k (ix4 (0 : Fin 1) j i r) = stat m ρ (pl c (16 - j.val)) k i r := by
  have e : ((chunkR k).emb (ix4 (0 : Fin 1) j i r) : S2x16x4x2048.Idx) = ix4 k j i r := by
    funext a
    refine Fin.ext ((ValueKit.rect_emb_unit_val _ _ _ _ a).trans ?_)
    match a with
    | ⟨0, _⟩ => rfl
    | ⟨1, _⟩ => show 0 + j.val = j.val; omega
    | ⟨2, _⟩ => show 0 + i.val = i.val; omega
    | ⟨3, _⟩ => show 0 + r.val = r.val; omega
  show CA m ρ c ((chunkR k).emb (ix4 (0 : Fin 1) j i r) : S2x16x4x2048.Idx) = _
  rw [e]
  rfl

/-- The slots of a buffer name every device once. -/
def fromSlot (c : Dev nD) : Fin 16 ≃ Dev nD where
  toFun j := pl c (16 - j.val)
  invFun p := ⟨(c.val + (16 - p.val)) % 16, Nat.mod_lt _ (by decide)⟩
  left_inv j := by
    have hc : c.val < 16 := c.isLt
    have hj := j.isLt
    apply Fin.ext; simp only [pl]; omega
  right_inv p := by
    have hc : c.val < 16 := c.isLt
    have hp : p.val < 16 := p.isLt
    apply Fin.ext; simp only [pl]; omega

/-- The statistics summed over the slots are summed over the devices. -/
theorem pay18_apply (c : Dev nD) (k : Fin 2) (i : Fin 4) (r : Fin 2048) :
    k0_pay18 (F := Ideal) (cch m ρ c k) (ix2 i r) = ∑ p : Dev nD, (stat m ρ p k i r : EReal) := by
  rw [← Equiv.sum_comp (fromSlot c)]
  show multiReduction .add [0] S4x2048 (shapeCast S16x4x2048 (cch m ρ c k) shapeCasts_S1x16x4x2048_S16x4x2048) 0x00000000#32
    reduces_S16x4x2048_S4x2048 (.inl rfl) rfl (ix2 i r) = _
  refine (Ideal.multiReduction_add_single _ 0x00000000#32 reduces_S16x4x2048_S4x2048 (.inl rfl) rfl (ix2 i r)).trans ?_
  refine Finset.sum_congr rfl fun j _ => ?_
  refine Eq.trans ?_ (cch_apply m ρ c k j i r)
  refine Eq.trans (congrArg _ ?_) (shapeCast_1abc_abc_apply (cch m ρ c k) shapeCasts_S1x16x4x2048_S16x4x2048 j i r)
  funext a
  match a with
  | ⟨0, _⟩ => rfl
  | ⟨1, _⟩ => rfl
  | ⟨2, _⟩ => rfl

/-! ## Mean and root -/

/-- The sum over every device's channels. -/
def tot (b : Fin 2) (t : Fin 4096) : EReal := ∑ p : Dev nD, ∑ d : Fin 512, xat m ρ p b t d
/-- The sum of squares over every device's channels. -/
def totSq (b : Fin 2) (t : Fin 4096) : EReal := ∑ p : Dev nD, ∑ d : Fin 512, xat m ρ p b t d * xat m ρ p b t d

/-- The mean at a step. -/
def meanAt (b : Fin 2) (t : Fin 4096) : EReal := tot m ρ b t * ((1 / 8192 : ℝ) : EReal)
/-- The reciprocal root at a step. -/
def invAt (b : Fin 2) (t : Fin 4096) : EReal :=
  Ideal.rsqrt (totSq m ρ b t * ((1 / 8192 : ℝ) : EReal) - meanAt m ρ b t * meanAt m ρ b t + (eps : EReal))

theorem pay19_apply (c : Dev nD) (k : Fin 2) (b : Fin 2) (r : Fin 2048) :
    k0_pay19 (F := Ideal) (cch m ρ c k) (ix2 b r) = meanAt m ρ b (stepOf k r) := by
  show mulf (extractStridedSlice S2x2048 ![0, 0] (k0_pay18 (cch m ρ c k)) slices_S4x2048_o0_0_S2x2048)
    (broadcast S2x2048 (Scalar.ofBits .f32 0x39000000#32 : Ideal .f32)) (ix2 b r) = _
  rw [mulf_apply, slice2_axis0_apply 0 (k0_pay18 (cch m ρ c k)) slices_S4x2048_o0_0_S2x2048 b r ⟨b.val, by omega⟩ (by show b.val = 0 + b.val; omega),
    pay18_apply, broadcast_apply, show (Scalar.ofBits .f32 0x39000000#32 : Ideal .f32) = ((1 / 8192 : ℝ) : EReal) from ofBits_recip]
  unfold meanAt tot
  exact congrArg (· * ((1 / 8192 : ℝ) : EReal)) (Finset.sum_congr rfl fun p _ => stat_sum m ρ p k b r)

theorem pay20_apply (c : Dev nD) (k : Fin 2) (b : Fin 2) (r : Fin 2048) :
    k0_pay20 (F := Ideal) (cch m ρ c k) (ix2 b r) = invAt m ρ b (stepOf k r) := by
  show Ideal.rsqrt (addf (subf (mulf (extractStridedSlice S2x2048 ![2, 0] (k0_pay18 (cch m ρ c k)) slices_S4x2048_o2_0_S2x2048)
    (broadcast S2x2048 (Scalar.ofBits .f32 0x39000000#32 : Ideal .f32))) (mulf (k0_pay19 (cch m ρ c k)) (k0_pay19 (cch m ρ c k))))
    (broadcast S2x2048 (Scalar.ofBits .f32 0x3727C5AC#32 : Ideal .f32)) (ix2 b r)) = _
  rw [addf_apply, subf_apply, mulf_apply, mulf_apply, pay19_apply,
    slice2_axis0_apply 2 (k0_pay18 (cch m ρ c k)) slices_S4x2048_o2_0_S2x2048 b r ⟨2 + b.val, by omega⟩ rfl,
    pay18_apply, broadcast_apply, show (Scalar.ofBits .f32 0x39000000#32 : Ideal .f32) = ((1 / 8192 : ℝ) : EReal) from ofBits_recip,
    broadcast_apply, show (Scalar.ofBits .f32 0x3727C5AC#32 : Ideal .f32) = (eps : EReal) from ofBits_eps]
  unfold invAt totSq
  rw [Finset.sum_congr rfl fun p _ => stat_sq m ρ p k b r]

/-! ## The projections -/

/-- The conditioning vector at an index. -/
def tat (c : Dev nD) (b : Fin 2) (k : Fin 128) : EReal := (tstg m ρ c : S2x128.Idx → EReal) (ix2 b k)
/-- The scale weights at an index. -/
def wat (c : Dev nD) (k : Fin 128) (d : Fin 512) : EReal := (wstg m ρ c : S128x512.Idx → EReal) (ix2 k d)
/-- The shift weights at an index. -/
def vat (c : Dev nD) (k : Fin 128) (d : Fin 512) : EReal := (vstg m ρ c : S128x512.Idx → EReal) (ix2 k d)

theorem unit_emb2 {A B : ℕ} (h : ∀ a, (![0, 0] : Fin 2 → ℕ) a + (⟨2, ![A, B]⟩ : Shape).size a ≤ (⟨2, ![A, B]⟩ : Shape).size a) (i : Fin A) (j : Fin B) :
    ((Rect.unit (s := ⟨2, ![A, B]⟩) ![0, 0] (⟨2, ![A, B]⟩ : Shape).size h).emb (ix2 i j) : (⟨2, ![A, B]⟩ : Shape).Idx) = ix2 i j := by
  funext a
  refine Fin.ext ((ValueKit.rect_emb_unit_val _ _ _ _ a).trans ?_)
  match a with
  | ⟨0, _⟩ => show 0 + i.val = i.val; omega
  | ⟨1, _⟩ => show 0 + j.val = j.val; omega

theorem tch_apply (c : Dev nD) (b : Fin 2) (k : Fin 128) : tch m ρ c (ix2 b k) = tat m ρ c b k :=
  congrArg (tstg m ρ c : S2x128.Idx → EReal) (unit_emb2 inb_S2x128_S2x128_0_0 b k)
theorem wch_apply (c : Dev nD) (k : Fin 128) (d : Fin 512) : wch m ρ c (ix2 k d) = wat m ρ c k d :=
  congrArg (wstg m ρ c : S128x512.Idx → EReal) (unit_emb2 inb_S128x512_S128x512_0_0 k d)
theorem vch_apply (c : Dev nD) (k : Fin 128) (d : Fin 512) : vch m ρ c (ix2 k d) = vat m ρ c k d :=
  congrArg (vstg m ρ c : S128x512.Idx → EReal) (unit_emb2 inb_S128x512_S128x512_0_0 k d)

/-- A product with the weights. -/
theorem prod_apply (t : FVec Ideal S2x128 .f32) (w : FVec Ideal S128x512 .f32) (b : Fin 2) (d : Fin 512) :
    matmul dot_S2x128_S128x512_S2x512_1_0_0_1_n_n none t w (constant S2x512 .f32 0x00000000#32) (ix2 b d) = ∑ k : Fin 128, t (ix2 b k) * w (ix2 k d) := by
  have h := Ideal.matmul_plain_apply (M := 2) (K := 128) (N := 512) none t w (constant S2x512 .f32 0x00000000#32) b d
  rw [show (constant S2x512 .f32 0x00000000#32 : FVec Ideal S2x512 .f32) (ix2 b d) = 0 from Ideal.ofBits_zero_f32, zero_add] at h
  exact h

theorem sc_apply (c : Dev nD) (b : Fin 2) (d : Fin 512) : sc m ρ c (ix2 b d) = 1 + ∑ k : Fin 128, tat m ρ c b k * wat m ρ c k d := by
  show addf (broadcast S2x512 (Scalar.ofBits .f32 0x3F800000#32 : Ideal .f32)) (matmul dot_S2x128_S128x512_S2x512_1_0_0_1_n_n none
    (shapeCast S2x128 (tch m ρ c) shapeCasts_S2x128_S2x128) (shapeCast S128x512 (wch m ρ c) shapeCasts_S128x512_S128x512)
    (constant S2x512 .f32 0x00000000#32)) (ix2 b d) = _
  rw [cast_same, cast_same, addf_apply, prod_apply, broadcast_apply, show (Scalar.ofBits .f32 0x3F800000#32 : Ideal .f32) = 1 from Ideal.ofBits_one_f32]
  exact congrArg (1 + ·) (Finset.sum_congr rfl fun k _ => by rw [tch_apply, wch_apply])

theorem sh_apply (c : Dev nD) (b : Fin 2) (d : Fin 512) : sh m ρ c (ix2 b d) = ∑ k : Fin 128, tat m ρ c b k * vat m ρ c k d := by
  show matmul dot_S2x128_S128x512_S2x512_1_0_0_1_n_n none
    (shapeCast S2x128 (tch m ρ c) shapeCasts_S2x128_S2x128) (shapeCast S128x512 (vch m ρ c) shapeCasts_S128x512_S128x512)
    (constant S2x512 .f32 0x00000000#32) (ix2 b d) = _
  rw [cast_same, cast_same, prod_apply]
  exact Finset.sum_congr rfl fun k _ => by rw [tch_apply, vch_apply]

/-! ## The result -/

/-- The step of a piece and a column. -/
def stepQ (q : Fin 4) (r : Fin 1024) : Fin 4096 := ⟨1024 * q.val + r.val, by have := q.isLt; omega⟩

/-- The kernel's value at an index. -/
def valAt (c : Dev nD) (b : Fin 2) (t : Fin 4096) (d : Fin 512) : EReal :=
  (xat m ρ c b t d - meanAt m ρ b t) * invAt m ρ b t * (1 + ∑ k : Fin 128, tat m ρ c b k * wat m ρ c k d) + ∑ k : Fin 128, tat m ρ c b k * vat m ρ c k d

theorem norm_val (c : Dev nD) (q : Fin 4) (mean inv : FVec Ideal S2x1024 .f32) (b : Fin 2) (r : Fin 1024) (d : Fin 512)
    (hm : mean (ix2 b r) = meanAt m ρ b (stepQ q r)) (hi : inv (ix2 b r) = invAt m ρ b (stepQ q r)) :
    normT (sc m ρ c) (sh m ρ c) mean inv (shapeCast S2x1024x512 (xch q (xstg m ρ c)) shapeCasts_S2x1024x512_S2x1024x512) (ix3 b r d)
      = valAt m ρ c b (stepQ q r) d := by
  rw [normT_apply, hm, hi, sc_apply, sh_apply, cast_same, xch_apply]
  rfl

theorem och_apply (c : Dev nD) (q : Fin 4) (b : Fin 2) (r : Fin 1024) (d : Fin 512) :
    och m ρ c q (ix3 b r d) = valAt m ρ c b (stepQ q r) d := by
  have hs : ∀ (k : Fin 2) (n : ℕ) (h : n < 2048) (e : 2048 * k.val + n = 1024 * q.val + r.val), stepOf k ⟨n, h⟩ = stepQ q r :=
    fun k n h e => Fin.ext e
  match q, hs with
  | ⟨0, _⟩, hs =>
    refine (congrFun (och_0 m ρ c) _).trans (norm_val m ρ c 0 _ _ b r d ?_ ?_)
    · rw [lo_apply, pay19_apply, hs 0 _ _ (by show 2048 * 0 + r.val = 1024 * 0 + r.val; omega)]; rfl
    · rw [lo_apply, pay20_apply, hs 0 _ _ (by show 2048 * 0 + r.val = 1024 * 0 + r.val; omega)]; rfl
  | ⟨1, _⟩, hs =>
    refine (congrFun (och_1 m ρ c) _).trans (norm_val m ρ c 1 _ _ b r d ?_ ?_)
    · rw [hi_apply, pay19_apply, hs 0 _ _ (by show 2048 * 0 + (1024 + r.val) = 1024 * 1 + r.val; omega)]; rfl
    · rw [hi_apply, pay20_apply, hs 0 _ _ (by show 2048 * 0 + (1024 + r.val) = 1024 * 1 + r.val; omega)]; rfl
  | ⟨2, _⟩, hs =>
    refine (congrFun (och_2 m ρ c) _).trans (norm_val m ρ c 2 _ _ b r d ?_ ?_)
    · rw [lo_apply, pay19_apply, hs 1 _ _ (by show 2048 * 1 + r.val = 1024 * 2 + r.val; omega)]; rfl
    · rw [lo_apply, pay20_apply, hs 1 _ _ (by show 2048 * 1 + r.val = 1024 * 2 + r.val; omega)]; rfl
  | ⟨3, _⟩, hs =>
    refine (congrFun (och_3 m ρ c) _).trans (norm_val m ρ c 3 _ _ b r d ?_ ?_)
    · rw [hi_apply, pay19_apply, hs 1 _ _ (by show 2048 * 1 + (1024 + r.val) = 1024 * 3 + r.val; omega)]; rfl
    · rw [hi_apply, pay20_apply, hs 1 _ _ (by show 2048 * 1 + (1024 + r.val) = 1024 * 3 + r.val; omega)]; rfl

/-- The staged result at an index. -/
theorem outAt_apply (c : Dev nD) (b : Fin 2) (t : Fin 4096) (d : Fin 512) :
    (outAt m ρ c : S2x4096x512.Idx → EReal) (ix3 b t d) = valAt m ρ c b t d := by
  have e : ∀ (b : Fin 2) (r : Fin 1024) (d : Fin 512), chIdx b r d = ix3 b r d := fun b r d => by
    funext a
    match a with
    | ⟨0, _⟩ => rfl
    | ⟨1, _⟩ => rfl
    | ⟨2, _⟩ => rfl
  have ht : stepQ ⟨t.val / 1024, by omega⟩ ⟨t.val % 1024, by omega⟩ = t := Fin.ext (by show 1024 * (t.val / 1024) + t.val % 1024 = t.val; omega)
  show och m ρ c ⟨t.val / 1024, _⟩ (chIdx b ⟨t.val % 1024, _⟩ d) = _
  rw [e, och_apply, ht]

end Cert.KernelIdeal.Hand

end
-- ==== Proof.RefValue.lean ====
/-
The reference's result read at an index: the normalised value times one plus the scale, plus the shift.
-/
module

public import proofs.«01_k».proof.Proof.Moments
public import proofs.«01_k».proof.Proof.Gen.ReferenceIdeal
public import proofs.«01_k».proof.Proof.Gen.ReferenceIdeal.Run
public import Idealize.ShloMosaic.Lib.IdealHost
public import Idealize.ShloMosaic.Lib.ValueIdx
public import Idealize.ShloMosaic.Lib.ValueLayout
public import Idealize.ShloMosaic.Lib.KernelVsHost
public import Idealize.ShloMosaic.Lib.MatmulPlain

@[expose] public section

noncomputable section

namespace Cert.ReferenceIdeal.Hand

open Cert.ReferenceIdeal Cert.ReferenceIdeal.Gen Cert.Moments
open Idealize.ShloMosaic Idealize.ShloMosaic.TcCoe Idealize.ShloMosaic.ValueIdx Idealize.SL.Sem

/-- The mean over the channels, as the reference computes it. -/
def meanT (X : FVec Ideal S2x4096x8192 .f32) : FVec Ideal S2x4096x1 .f32 :=
  Host.divf (broadcastInDim S2x4096x1 ![0, 1] bcast_S2x4096_S2x4096x1_0_1 (Host.reduceAdd X (constant S_ .f32 0x00000000#32) reducesTo_S2x4096x8192_S2x4096_d2 h_S_)) (broadcastInDim S2x4096x1 ![] bcast_S_S2x4096x1 (constant S_ .f32 0x46000000#32))

/-- The values less their mean. -/
def devT (X : FVec Ideal S2x4096x8192 .f32) : FVec Ideal S2x4096x8192 .f32 :=
  subf X (broadcastInDim S2x4096x8192 ![0, 1, 2] bcast_S2x4096x1_S2x4096x8192_0_1_2 (meanT X))

/-- The number of channels less the correction, which is zero. -/
def countT : FVec Ideal S_ .f32 := subf (constant S_ .f32 0x46000000#32) (sitofp .f32 (constantI S_ 32 0#32))

/-- The variance over the channels, as the reference computes it. -/
def varT (X : FVec Ideal S2x4096x8192 .f32) : FVec Ideal S2x4096x1 .f32 :=
  select (broadcastInDim S2x4096x1 ![] bcast_S_S2x4096x1 (cmpf .ogt countT (constant S_ .f32 0x00000000#32))) (Host.divf (broadcastInDim S2x4096x1 ![0, 1] bcast_S2x4096_S2x4096x1_0_1 (Host.reduceAdd (mulf (devT X) (devT X)) (constant S_ .f32 0x00000000#32) reducesTo_S2x4096x8192_S2x4096_d2 h_S_)) (broadcastInDim S2x4096x1 ![] bcast_S_S2x4096x1 countT)) (broadcastInDim S2x4096x1 ![] bcast_S_S2x4096x1 (id (constant S_ .f32 0x7FC00000#32)))

/-- The projection of the conditioning vector. -/
def dotT (T : FVec Ideal S2x128 .f32) (W : FVec Ideal S128x8192 .f32) : FVec Ideal S2x1x8192 .f32 :=
  broadcastInDim S2x1x8192 ![0, 2] bcast_S2x8192_S2x1x8192_0_2 (Host.dotGeneral dot_S2x128_S128x8192_S2x8192_1_0_0_1_n_n none T W)

/-- The reference's result. -/
def resT (X : FVec Ideal S2x4096x8192 .f32) (T : FVec Ideal S2x128 .f32) (W V : FVec Ideal S128x8192 .f32) : FVec Ideal S2x4096x8192 .f32 :=
  addf (mulf (Host.divf (devT X) (broadcastInDim S2x4096x8192 ![0, 1, 2] bcast_S2x4096x1_S2x4096x8192_0_1_2 (Host.sqrt (addf (varT X) (broadcastInDim S2x4096x1 ![] bcast_S_S2x4096x1 (constant S_ .f32 0x3727C5AC#32)))))) (broadcastInDim S2x4096x8192 ![0, 1, 2] bcast_S2x1x8192_S2x4096x8192_0_1_2 (addf (broadcastInDim S2x1x8192 ![] bcast_S_S2x1x8192 (constant S_ .f32 0x3F800000#32)) (dotT T W)))) (broadcastInDim S2x4096x8192 ![0, 1, 2] bcast_S2x1x8192_S2x4096x8192_0_1_2 (dotT T V))

/-- The reference's run, its result in that form. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = resT (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

/-! ## The pieces read at an index -/

/-- A column of per-step values spread over the channels. -/
theorem spread_apply (v : FVec Ideal S2x4096x1 .f32) (b : Fin 2) (t : Fin 4096) (ch : Fin 8192) :
    broadcastInDim S2x4096x8192 ![0, 1, 2] bcast_S2x4096x1_S2x4096x8192_0_1_2 v (ix3 b t ch) = v (ix3 b t 0) :=
  broadcastInDim_apply _ _ _ _ _ (fun a => by
    match a with
    | ⟨0, _⟩ => rfl
    | ⟨1, _⟩ => rfl
    | ⟨2, _⟩ => rfl)

/-- A row of per-channel values spread over the steps. -/
theorem spreadRow_apply (v : FVec Ideal S2x1x8192 .f32) (b : Fin 2) (t : Fin 4096) (ch : Fin 8192) :
    broadcastInDim S2x4096x8192 ![0, 1, 2] bcast_S2x1x8192_S2x4096x8192_0_1_2 v (ix3 b t ch) = v (ix3 b 0 ch) :=
  broadcastInDim_apply _ _ _ _ _ (fun a => by
    match a with
    | ⟨0, _⟩ => rfl
    | ⟨1, _⟩ => rfl
    | ⟨2, _⟩ => rfl)

/-- A per-step value as a column. -/
theorem col_apply (v : FVec Ideal S2x4096 .f32) (b : Fin 2) (t : Fin 4096) :
    broadcastInDim S2x4096x1 ![0, 1] bcast_S2x4096_S2x4096x1_0_1 v (ix3 b t 0) = v (ix2 b t) :=
  broadcastInDim_apply _ _ _ _ _ (fun a => by
    match a with
    | ⟨0, _⟩ => rfl
    | ⟨1, _⟩ => rfl)

/-- A per-channel value as a row. -/
theorem row_apply (v : FVec Ideal S2x8192 .f32) (b : Fin 2) (ch : Fin 8192) :
    broadcastInDim S2x1x8192 ![0, 2] bcast_S2x8192_S2x1x8192_0_2 v (ix3 b 0 ch) = v (ix2 b ch) :=
  broadcastInDim_apply _ _ _ _ _ (fun a => by
    match a with
    | ⟨0, _⟩ => rfl
    | ⟨1, _⟩ => rfl)

theorem reduces_ch : S2x4096x8192.Reduces [2] S2x4096 := by decide

/-- The sum over the channels. -/
theorem sum_apply (v : FVec Ideal S2x4096x8192 .f32) (b : Fin 2) (t : Fin 4096) :
    Host.reduceAdd v (constant S_ .f32 0x00000000#32) reducesTo_S2x4096x8192_S2x4096_d2 h_S_ (ix2 b t) = ∑ ch : Fin 8192, v (ix3 b t ch) := by
  rw [hostReduceAdd_apply, Ideal.hostReduceAdd_single _ reduces_ch]
  rw [show (constant S_ .f32 0x00000000#32 : FVec Ideal S_ .f32) (Shape.Idx.first h_S_) = 0 from Ideal.ofBits_zero_f32, zero_add]
  refine Finset.sum_congr rfl fun k _ => congrArg v ?_
  funext a
  match a with
  | ⟨0, _⟩ => rfl
  | ⟨1, _⟩ => rfl
  | ⟨2, _⟩ => rfl

/-- The mean at a step. -/
theorem mean_apply (X : FVec Ideal S2x4096x8192 .f32) (b : Fin 2) (t : Fin 4096) :
    meanT X (ix3 b t 0) = Ideal.div (∑ ch : Fin 8192, X (ix3 b t ch)) ((8192 : ℝ) : EReal) := by
  unfold meanT
  rw [hostDivf_apply, col_apply, sum_apply, broadcastInDim_scalar_apply]
  rw [show (constant S_ .f32 0x46000000#32 : FVec Ideal S_ .f32) ix0 = ((8192 : ℝ) : EReal) from ofBits_count]

theorem dev_apply (X : FVec Ideal S2x4096x8192 .f32) (b : Fin 2) (t : Fin 4096) (ch : Fin 8192) :
    devT X (ix3 b t ch) = X (ix3 b t ch) - Ideal.div (∑ ch : Fin 8192, X (ix3 b t ch)) ((8192 : ℝ) : EReal) := by
  unfold devT
  rw [subf_apply, spread_apply, mean_apply]

theorem count_apply : countT ix0 = ((8192 : ℝ) : EReal) := by
  unfold countT
  rw [subf_apply, show (constant S_ .f32 0x46000000#32 : FVec Ideal S_ .f32) ix0 = ((8192 : ℝ) : EReal) from ofBits_count,
    show (sitofp .f32 (constantI S_ 32 0#32) : FVec Ideal S_ .f32) ix0 = 0 from sitofp_zero]
  exact sub_zero _

theorem count_pos : cmpf .ogt countT (constant S_ .f32 0x00000000#32) ix0 = 1#1 := by
  rw [cmpf_apply, count_apply, show (constant S_ .f32 0x00000000#32 : FVec Ideal S_ .f32) ix0 = 0 from Ideal.ofBits_zero_f32]
  show BitVec.ofBool (decide ((0 : EReal) < ((8192 : ℝ) : EReal))) = 1#1
  rw [decide_eq_true (by exact_mod_cast (by norm_num : (0 : ℝ) < 8192))]
  rfl

/-- The variance at a step. -/
theorem var_apply (X : FVec Ideal S2x4096x8192 .f32) (b : Fin 2) (t : Fin 4096) :
    varT X (ix3 b t 0) = Ideal.div (∑ ch : Fin 8192, (X (ix3 b t ch) - Ideal.div (∑ ch : Fin 8192, X (ix3 b t ch)) ((8192 : ℝ) : EReal))
      * (X (ix3 b t ch) - Ideal.div (∑ ch : Fin 8192, X (ix3 b t ch)) ((8192 : ℝ) : EReal))) ((8192 : ℝ) : EReal) := by
  unfold varT
  rw [select_apply, broadcastInDim_scalar_apply, count_pos, select_one, hostDivf_apply, col_apply, sum_apply, broadcastInDim_scalar_apply, count_apply]
  refine congrArg (fun z => Ideal.div z ((8192 : ℝ) : EReal)) (Finset.sum_congr rfl fun ch _ => ?_)
  rw [mulf_apply, dev_apply]

/-- A projection at a channel. -/
theorem dot_apply (T : FVec Ideal S2x128 .f32) (W : FVec Ideal S128x8192 .f32) (b : Fin 2) (ch : Fin 8192) :
    dotT T W (ix3 b 0 ch) = ∑ k : Fin 128, T (ix2 b k) * W (ix2 k ch) := by
  unfold dotT
  rw [row_apply]
  have h := Ideal.matmul_plain_apply (M := 2) (K := 128) (N := 8192) none T W (fun _ => 0) b ch
  rw [zero_add] at h
  rw [← h]
  simp only [Host.dotGeneral]
  rw [Ideal.dotGeneral_apply, Ideal.matmul_apply, zero_add]
  rfl

/-- The reference's result at an index. -/
theorem res_apply (X : FVec Ideal S2x4096x8192 .f32) (T : FVec Ideal S2x128 .f32) (W V : FVec Ideal S128x8192 .f32) (b : Fin 2) (t : Fin 4096)
    (ch : Fin 8192) :
    resT X T W V (ix3 b t ch)
      = Ideal.div (X (ix3 b t ch) - Ideal.div (∑ ch : Fin 8192, X (ix3 b t ch)) ((8192 : ℝ) : EReal))
          (Ideal.sqrt (Ideal.div (∑ ch : Fin 8192, (X (ix3 b t ch) - Ideal.div (∑ ch : Fin 8192, X (ix3 b t ch)) ((8192 : ℝ) : EReal))
            * (X (ix3 b t ch) - Ideal.div (∑ ch : Fin 8192, X (ix3 b t ch)) ((8192 : ℝ) : EReal))) ((8192 : ℝ) : EReal) + (eps : EReal)))
        * (1 + ∑ k : Fin 128, T (ix2 b k) * W (ix2 k ch)) + ∑ k : Fin 128, T (ix2 b k) * V (ix2 k ch) := by
  unfold resT
  rw [addf_apply, mulf_apply, hostDivf_apply, dev_apply, spread_apply, spreadRow_apply, spreadRow_apply, dot_apply, addf_apply, dot_apply,
    broadcastInDim_scalar_apply, show (constant S_ .f32 0x3F800000#32 : FVec Ideal S_ .f32) ix0 = 1 from Ideal.ofBits_one_f32]
  rw [show ∀ v : FVec Ideal S2x4096x1 .f32, Host.sqrt v (ix3 b t 0) = Ideal.sqrt (v (ix3 b t 0)) from fun _ => rfl, addf_apply, var_apply,
    broadcastInDim_scalar_apply, show (constant S_ .f32 0x3727C5AC#32 : FVec Ideal S_ .f32) ix0 = (eps : EReal) from ofBits_eps]

end Cert.ReferenceIdeal.Hand

end
-- ==== Proof.Bridge.lean ====
/-
The kernel's result on every device is that device's block of the reference's result.
-/
module

public import proofs.«01_k».proof.Defs
public import proofs.«01_k».proof.Proof.Values
public import proofs.«01_k».proof.Proof.RefValue

@[expose] public section

noncomputable section

namespace Cert.Bridge

open Cert.KernelIdeal Cert.KernelIdeal.Gen Cert.KernelIdeal.Hand Cert.Moments
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The staged blocks and the final array are the whole buffers -/

theorem xstg_eq (c : Dev nD) : xstg m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem tstg_eq (c : Dev nD) : tstg m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
theorem wstg_eq (c : Dev nD) : wstg m ρ c = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _
theorem vstg_eq (c : Dev nD) : vstg m ρ c = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) _

/-- What the result's array holds after the run, read through its window, is the staged result. -/
theorem finalA_read (c : Dev nD) : (win0_4.blk (0 : Fin 1)).view.read (Elt Ideal) (finalA m ρ c (4 : Fin 5)) = outAt m ρ c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

/-- What the result's array holds after the run. -/
theorem finalA_4 (c : Dev nD) : finalA m ρ c (4 : Fin 5) = outAt m ρ c := by
  have hz : (fun a => (win0_4.index (0 : Fin 1)) a * main_v1.ty.shape.size a) = fun _ => 0 := funext fun a => by fin_cases a <;> decide
  exact (Memref.read_access_unit_zero (Elt Ideal) main_v1 hz (fun a => by fin_cases a <;> decide) _).symm.trans (finalA_read m ρ c)

/-! ## Channels by device -/

/-- The channel of a device and a local channel. -/
def chOf (p : Fin 16) (d : Fin 512) : Fin 8192 := ⟨p.val * 512 + d.val, by omega⟩

/-- A device and a local channel name every channel once. -/
def chEquiv : Fin 16 × Fin 512 ≃ Fin 8192 where
  toFun q := chOf q.1 q.2
  invFun ch := (⟨ch.val / 512, by omega⟩, ⟨ch.val % 512, by omega⟩)
  left_inv q := by
    obtain ⟨p, d⟩ := q
    refine Prod.ext (Fin.ext ?_) (Fin.ext ?_)
    · show (p.val * 512 + d.val) / 512 = p.val; omega
    · show (p.val * 512 + d.val) % 512 = d.val; omega
  right_inv ch := Fin.ext (by show ch.val / 512 * 512 + ch.val % 512 = ch.val; omega)

/-- A sum over the devices and their channels is a sum over all channels. -/
theorem sum_channels (f : Fin 8192 → EReal) : ∑ p : Fin 16, ∑ d : Fin 512, f (chOf p d) = ∑ ch : Fin 8192, f ch := by
  rw [← Fintype.sum_prod_type' (f := fun p d => f (chOf p d)), ← Equiv.sum_comp chEquiv]
  rfl

/-- A block of the whole array of values, at an index. -/
theorem block3_apply {α : Type} (h : Layout.Tiles ⟨3, ![2, 4096, 512]⟩ ⟨3, ![2, 4096, 8192]⟩ 2 16) (c : Fin 16)
    (X : (⟨3, ![2, 4096, 8192]⟩ : Shape).Idx → α) (b : Fin 2) (t : Fin 4096) (d : Fin 512) :
    Layout.block ⟨3, ![2, 4096, 512]⟩ ⟨3, ![2, 4096, 8192]⟩ 2 16 c X h (ix3 b t d) = X (ix3 b t (chOf c d)) := by
  rw [Layout.block_apply]
  congr 1
  funext a
  match a with
  | ⟨0, _⟩ => rfl
  | ⟨1, _⟩ => rfl
  | ⟨2, _⟩ => rfl

/-- A block of the whole array of weights, at an index. -/
theorem block2_apply {α : Type} (h : Layout.Tiles ⟨2, ![128, 512]⟩ ⟨2, ![128, 8192]⟩ 1 16) (c : Fin 16)
    (W : (⟨2, ![128, 8192]⟩ : Shape).Idx → α) (k : Fin 128) (d : Fin 512) :
    Layout.block ⟨2, ![128, 512]⟩ ⟨2, ![128, 8192]⟩ 1 16 c W h (ix2 k d) = W (ix2 k (chOf c d)) := by
  rw [Layout.block_apply]
  congr 1
  funext a
  match a with
  | ⟨0, _⟩ => rfl
  | ⟨1, _⟩ => rfl

/-! ## The values agree -/

/-- The predicate's bit at an index says the value there is neither infinity. -/
theorem finite_of_bit (x : EReal) (h : Scalar.andi (FloatOps.cmpf (F := Ideal) (φ := .f32) .ogt x (Ideal.ofBits .f32 0xFF800000#32))
    (FloatOps.cmpf (F := Ideal) (φ := .f32) .olt x (Ideal.ofBits .f32 0x7F800000#32)) = 1#1) : x ≠ ⊥ ∧ x ≠ ⊤ := by
  constructor
  · rintro rfl
    revert h
    have h1 : FloatOps.cmpf (F := Ideal) (φ := .f32) .ogt (⊥ : EReal) (Ideal.ofBits .f32 0xFF800000#32) = 0#1 := by
      show BitVec.ofBool (decide (Ideal.ofBits .f32 0xFF800000#32 < (⊥ : EReal))) = 0#1
      rw [decide_eq_false not_lt_bot]; rfl
    rw [h1]
    generalize FloatOps.cmpf (F := Ideal) (φ := .f32) .olt (⊥ : EReal) (Ideal.ofBits .f32 0x7F800000#32) = y
    revert y; decide
  · rintro rfl
    revert h
    have h1 : FloatOps.cmpf (F := Ideal) (φ := .f32) .olt (⊤ : EReal) (Ideal.ofBits .f32 0x7F800000#32) = 0#1 := by
      show BitVec.ofBool (decide ((⊤ : EReal) < Ideal.ofBits .f32 0x7F800000#32)) = 0#1
      rw [decide_eq_false not_top_lt]; rfl
    rw [h1]
    generalize FloatOps.cmpf (F := Ideal) (φ := .f32) .ogt (⊤ : EReal) (Ideal.ofBits .f32 0xFF800000#32) = y
    revert y; decide

/-- At every index the kernel's value is the reference's at the device's channel. -/
theorem val_eq (X : (⟨3, ![2, 4096, 8192]⟩ : Shape).Idx → EReal) (T : (⟨2, ![2, 128]⟩ : Shape).Idx → EReal)
    (W V : (⟨2, ![128, 8192]⟩ : Shape).Idx → EReal)
    (hX : ∀ (p : Dev nD) (b : Fin 2) (t : Fin 4096) (d : Fin 512), xat m ρ p b t d = X (ix3 b t (chOf p d)))
    (hT : ∀ (p : Dev nD) (b : Fin 2) (k : Fin 128), tat m ρ p b k = T (ix2 b k))
    (hW : ∀ (p : Dev nD) (k : Fin 128) (d : Fin 512), wat m ρ p k d = W (ix2 k (chOf p d)))
    (hV : ∀ (p : Dev nD) (k : Fin 128) (d : Fin 512), vat m ρ p k d = V (ix2 k (chOf p d)))
    (hf : ∀ (p : Dev nD) (b : Fin 2) (t : Fin 4096) (d : Fin 512), xat m ρ p b t d ≠ ⊥ ∧ xat m ρ p b t d ≠ ⊤)
    (c : Dev nD) (b : Fin 2) (t : Fin 4096) (d : Fin 512) :
    valAt m ρ c b t d = Cert.ReferenceIdeal.Hand.resT X T W V (ix3 b t (chOf c d)) := by
  have hfin : ∀ ch : Fin 8192, X (ix3 b t ch) ≠ ⊥ ∧ X (ix3 b t ch) ≠ ⊤ := fun ch => by
    have h := hf (chEquiv.symm ch).1 b t (chEquiv.symm ch).2
    rw [hX] at h
    have e : chOf (chEquiv.symm ch).1 (chEquiv.symm ch).2 = ch := chEquiv.apply_symm_apply ch
    rwa [e] at h
  have h1 : tot m ρ b t = ∑ ch : Fin 8192, X (ix3 b t ch) := by
    rw [← sum_channels (fun ch => X (ix3 b t ch))]
    exact Finset.sum_congr rfl fun p _ => Finset.sum_congr rfl fun d _ => hX p b t d
  have h2 : totSq m ρ b t = ∑ ch : Fin 8192, X (ix3 b t ch) * X (ix3 b t ch) := by
    rw [← sum_channels (fun ch => X (ix3 b t ch) * X (ix3 b t ch))]
    exact Finset.sum_congr rfl fun p _ => Finset.sum_congr rfl fun d _ => by rw [hX p b t d]
  rw [Cert.ReferenceIdeal.Hand.res_apply, ← normalised (Fintype.card_fin 8192) (fun ch => X (ix3 b t ch)) hfin (chOf c d)]
  unfold valAt invAt meanAt
  rw [h1, h2, hX]
  simp only [hT, hW, hV]

/-- The value claim: with finite values of `x` on every device, every device's result is its block of the reference's. -/
theorem algebraic [hP : Cert.Pre_finite_x_KernelIdeal.Facts] :
    Cert.algebraic_KernelIdeal_ReferenceIdeal_pre_finite_x_KernelIdeal := by
  intro m ρ m' ρ' hpre hagree
  refine ⟨Cert.ReferenceIdeal.Hand.resT (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run defs _ _).mono (fun _ h c => ⟨(h.1 c (4 : Fin 5)).trans ((finalA_4 m ρ c).trans ?_), (h.1 c 0).trans (finalA_0 m ρ c),
      (h.1 c 1).trans (finalA_1 m ρ c), (h.1 c 2).trans (finalA_2 m ρ c), (h.1 c 3).trans (finalA_3 m ρ c)⟩) (run_main (F := Ideal) m ρ)
    funext i
    have hi := eq_ix3 (n0 := 2) (n1 := 4096) (n2 := 512) i
    rw [hi]
    refine (outAt_apply m ρ c _ _ _).trans (Eq.trans ?_ (block3_apply (by decide) c _ _ _ _).symm)
    refine val_eq m ρ _ _ _ _ (fun p b t d => ?_) (fun p b k => ?_) (fun p k d => ?_) (fun p k d => ?_) (fun p b t d => ?_) c _ _ _
    · exact (congrFun ((xstg_eq m ρ p).trans (hagree p).1) _).trans (block3_apply (by decide) p _ b t d)
    · exact congrFun ((tstg_eq m ρ p).trans (hagree p).2.1) _
    · exact (congrFun ((wstg_eq m ρ p).trans (hagree p).2.2.1) _).trans (block2_apply (by decide) p _ k d)
    · exact (congrFun ((vstg_eq m ρ p).trans (hagree p).2.2.2) _).trans (block2_apply (by decide) p _ k d)
    · have e : xat m ρ p b t d = (m ((p.tc : Thread nD τ).loc main_arg0) : S2x4096x512.Idx → EReal) (ix3 b t d) := congrFun (xstg_eq m ρ p) _
      rw [e]
      exact finite_of_bit _ (congrFun (hpre p) (ix3 b t d))
  · exact (θ_run Cert.ReferenceIdeal.defs _ _).mono (fun _ h => h 0) (Cert.ReferenceIdeal.Hand.run_res m' ρ')

end Cert.Bridge

end
-- ==== Proof.lean ====
/-
The proof of `Cert.Claim`: the frames from the two programs' runs, the reference's frame from its own run, and the value claim.
-/
module

public import proofs.«01_k».proof.Defs
public import proofs.«01_k».proof.Proof.LaunchKernel
public import proofs.«01_k».proof.Proof.LaunchKernelIdeal
public import proofs.«01_k».proof.Proof.Bridge
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel over machine floats runs, keeps its arguments and ends with every counter at zero. -/
theorem frame_kernel : Cert.quiescent_Kernel := fun m ρ _ => Cert.Kernel.Hand.run_frame (F := Bits) m ρ

/-- The kernel over the extended reals, likewise. -/
theorem frame_kernelIdeal : Cert.quiescent_KernelIdeal := fun m ρ _ => Cert.KernelIdeal.Hand.run_frame (F := Ideal) m ρ

/-- The reference, likewise; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one side condition of the predicate on the kernel's arguments: a scalar spreads over a block. -/
theorem pre_kernelIdeal_facts : Cert.Pre_finite_x_KernelIdeal.Facts := ⟨by decide⟩

/-- The same of the predicate on the reference's arguments. -/
theorem pre_referenceIdeal_facts : Cert.Pre_finite_x_ReferenceIdeal.Facts := ⟨by decide⟩

/-- The kernel's frame under the predicate: it holds without it. -/
theorem frame_kernelIdeal_pre : Cert.quiescent_KernelIdeal_pre_finite_x_KernelIdeal (hPre_finite_x_KernelIdeal := pre_kernelIdeal_facts) :=
  fun m ρ _ => Cert.KernelIdeal.Hand.run_frame (F := Ideal) m ρ

/-- The reference's frame under the predicate: it holds without it. -/
theorem frame_reference_pre : Cert.quiescent_ReferenceIdeal_pre_finite_x_ReferenceIdeal (hPre_finite_x_ReferenceIdeal := pre_referenceIdeal_facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts,
  pre_kernelIdeal_facts, pre_referenceIdeal_facts,
  frame_kernel, frame_kernelIdeal, frame_kernelIdeal_pre, frame_reference, frame_reference_pre, trivial,
  Cert.Bridge.algebraic (hP := pre_kernelIdeal_facts)⟩

end Cert.Proof

end
